-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 2048, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = Layout.block ⟨3, ![1, 256, 1024]⟩ ⟨3, ![1, 2048, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x256x1024 .f32) (main_arg1 : FVec F S1024x1024 .f32) (main_arg2 : FVec F S1x4096x8x128 .f32) (main_arg3 : FVec F S1x4096x8x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x8x128 .f32 := Host.absf main_arg2
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x1024 : Shape := ⟨2, ![1024, 1024]⟩
abbrev S1x32768x8x128 : Shape := ⟨4, ![1, 32768, 8, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x32768x8x128 : S_.BroadcastsInDim S1x32768x8x128 (![] : Fin 0 → Fin S1x32768x8x128.rank)
  reducesTo_S1x32768x8x128_S_d0_1_2_3 : S1x32768x8x128.ReducesTo [0, 1, 2, 3] S_

variable [Facts]

def fn {F : FTy → Type} [FloatOps F] (main_arg0 : FVec F S1x2048x1024 .f32) (main_arg1 : FVec F S1024x1024 .f32) (main_arg2 : FVec F S1x32768x8x128 .f32) (main_arg3 : FVec F S1x32768x8x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x32768x8x128 .f32 := Host.absf main_arg2
  let main_cst_2 : FVec F S_ .f32 := constant S_ .f32 0x7F800000#32
  let main_v10 : FVec F S1x32768x8x128 .f32 := broadcastInDim S1x32768x8x128 ![] bcast_S_S1x32768x8x128 main_cst_2
  let main_v11 : IVec S1x32768x8x128 1 := cmpf .olt main_v9 main_v10
  let main_c_3 : IVec S_ 1 := constantI S_ 1 1#1
  let main_v12 : IVec S_ 1 := (fun x v => Host.reduce IntOp.andi x v reducesTo_S1x32768x8x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S256x1024 : Shape := ⟨2, ![256, 1024]⟩
abbrev S_ : Shape := ⟨0, ![]⟩
abbrev S256x8x128 : Shape := ⟨3, ![256, 8, 128]⟩
abbrev S8x256x128 : Shape := ⟨3, ![8, 256, 128]⟩
abbrev S4096x8x128 : Shape := ⟨3, ![4096, 8, 128]⟩
abbrev S8x4096x128 : Shape := ⟨3, ![8, 4096, 128]⟩
abbrev S8x8x256x128 : Shape := ⟨4, ![8, 8, 256, 128]⟩
abbrev S8x1x8x256 : Shape := ⟨4, ![8, 1, 8, 256]⟩
abbrev S1x8x256 : Shape := ⟨3, ![1, 8, 256]⟩
abbrev S8 : Shape := ⟨1, ![8]⟩
abbrev S1x8x256x128 : Shape := ⟨4, ![1, 8, 256, 128]⟩
abbrev S1 : Shape := ⟨1, ![1]⟩
abbrev S8x1024x128 : Shape := ⟨3, ![8, 1024, 128]⟩
abbrev S8x256x1024 : Shape := ⟨3, ![8, 256, 1024]⟩
abbrev S8x256 : Shape := ⟨2, ![8, 256]⟩
abbrev S1x1x8x256 : Shape := ⟨4, ![1, 1, 8, 256]⟩
abbrev S8x256x1 : Shape := ⟨3, ![8, 256, 1]⟩

abbrev nBuf : Space → Nat
  | .hbm => 27
  | .vmem => 10
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S256x1024, .f32⟩
  | .hbm, ⟨6, _⟩ => ⟨S256x1024, .bf16⟩
  | .hbm, ⟨7, _⟩ => ⟨S1024x1024, .bf16⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x8x128, .f32⟩
  | .hbm, ⟨13, _⟩ => ⟨S8x256x128, .f32⟩
  | .hbm, ⟨14, _⟩ => ⟨S8x256x128, .bf16⟩
  | .hbm, ⟨15, _⟩ => ⟨S4096x8x128, .f32⟩
  | .hbm, ⟨16, _⟩ => ⟨S8x4096x128, .f32⟩
  | .hbm, ⟨17, _⟩ => ⟨S8x4096x128, .bf16⟩
  | .hbm, ⟨18, _⟩ => ⟨S4096x8x128, .f32⟩
  | .hbm, ⟨19, _⟩ => ⟨S8x4096x128, .f32⟩
  | .hbm, ⟨20, _⟩ => ⟨S8x4096x128, .bf16⟩
  | .hbm, ⟨21, _⟩ => ⟨S8x256x128, .bf16⟩
  | .hbm, ⟨22, _⟩ => ⟨S256x8x128, .bf16⟩
  | .hbm, ⟨23, _⟩ => ⟨S256x1024, .bf16⟩
  | .hbm, ⟨24, _⟩ => ⟨S1024x1024, .bf16⟩
  | .hbm, ⟨25, _⟩ => ⟨S256x1024, .f32⟩
  | .hbm, ⟨26, _⟩ => ⟨S1x256x1024, .f32⟩
  | .local _ .vmem, ⟨0, _⟩ => ⟨S8x256x128, .bf16⟩
  | .local _ .vmem, ⟨1, _⟩ => ⟨S8x4096x128, .bf16⟩
  | .local _ .vmem, ⟨2, _⟩ => ⟨S8x4096x128, .bf16⟩
  | .local _ .vmem, ⟨3, _⟩ => ⟨S8x256x128, .bf16⟩
  | .local _ .vmem, ⟨4, _⟩ => ⟨S8x8x256x128, .bf16⟩
  | .local _ .vmem, ⟨5, _⟩ => ⟨S8x8x256x128, .f32⟩
  | .local _ .vmem, ⟨6, _⟩ => ⟨S8x1x8x256, .f32⟩
  | .local _ .vmem, ⟨7, _⟩ => ⟨S8x256x128, .f32⟩
  | .local _ .vmem, ⟨8, _⟩ => ⟨S1x8x256, .f32⟩
  | .local _ .vmem, ⟨9, _⟩ => ⟨S8x256x128, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_8 : BitVec 32 := 1#32
  let v11 : BitVec 32 := Scalar.muli v4 c1_i32_8
  let v12 : BitVec 32 := Scalar.addi c0_i32_9 v11
  v12.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_20 : BitVec 32 := 1#32
  let v18 : BitVec 32 := Scalar.muli v4 c1_i32_20
  let v19 : BitVec 32 := Scalar.addi c0_i32_21 v18
  v19.toNat
@[reducible] def k0_t1_loop : Scf.Loop 32 :=
  let c1_i32_46 : BitVec 32 := 1#32
  let c3_i32 : BitVec 32 := 3#32
  let v45 : BitVec 32 := Scalar.addi c1_i32_46 c3_i32
  let c1_i32_47 : BitVec 32 := 1#32
  ⟨c1_i32_46, v45, c1_i32_47⟩
def k0_off1 (k0_t1 : Fin k0_t1_loop.trips) : Fin 3 → Nat :=
  let c0_1110 : Index := 0#32
  let c1_i32_46 : BitVec 32 := 1#32
  let c1_i32_47 : BitVec 32 := 1#32
  let arg18 : BitVec 32 := Scf.iv c1_i32_46 c1_i32_47 k0_t1
  let c1024_i32 : BitVec 32 := 1024#32
  let v797 : BitVec 32 := Scalar.muli arg18 c1024_i32
  let v798 : Index := Scalar.indexCast v797
  let c0_1111 : Index := 0#32
  ![0, v798.toNat, 0]
def k0_dev4 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_67 : BitVec 32 := 1#32
  let v55 : BitVec 32 := Scalar.muli v4 c1_i32_67
  let v56 : BitVec 32 := Scalar.addi c0_i32_68 v55
  v56.toNat
def k0_dev5 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_79 : BitVec 32 := 1#32
  let v65 : BitVec 32 := Scalar.muli v4 c1_i32_79
  let v66 : BitVec 32 := Scalar.addi c0_i32_80 v65
  v66.toNat
def k0_dev6 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_103 : BitVec 32 := 1#32
  let v83 : BitVec 32 := Scalar.muli v4 c1_i32_103
  let v84 : BitVec 32 := Scalar.addi c0_i32_104 v83
  v84.toNat
@[reducible] def k0_t2_loop : Scf.Loop 32 :=
  let c1_i32_129 : BitVec 32 := 1#32
  let c3_i32_130 : BitVec 32 := 3#32
  let v110 : BitVec 32 := Scalar.addi c1_i32_129 c3_i32_130
  let c1_i32_131 : BitVec 32 := 1#32
  ⟨c1_i32_129, v110, c1_i32_131⟩
def k0_off2 (k0_t2 : Fin k0_t2_loop.trips) : Fin 3 → Nat :=
  let c0_1110 : Index := 0#32
  let c1_i32_129 : BitVec 32 := 1#32
  let c1_i32_131 : BitVec 32 := 1#32
  let arg18 : BitVec 32 := Scf.iv c1_i32_129 c1_i32_131 k0_t2
  let c1024_i32 : BitVec 32 := 1024#32
  let v797 : BitVec 32 := Scalar.muli arg18 c1024_i32
  let v798 : Index := Scalar.indexCast v797
  let c0_1111 : Index := 0#32
  ![0, v798.toNat, 0]
def k0_dev7 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_183 : BitVec 32 := 1#32
  let v142 : BitVec 32 := Scalar.muli v4 c1_i32_183
  let v143 : BitVec 32 := Scalar.addi c0_i32_184 v142
  v143.toNat
def k0_dev8 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_195 : BitVec 32 := 1#32
  let v152 : BitVec 32 := Scalar.muli v4 c1_i32_195
  let v153 : BitVec 32 := Scalar.addi c0_i32_196 v152
  v153.toNat
def k0_dev9 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_219 : BitVec 32 := 1#32
  let v170 : BitVec 32 := Scalar.muli v4 c1_i32_219
  let v171 : BitVec 32 := Scalar.addi c0_i32_220 v170
  v171.toNat
@[reducible] def k0_t3_loop : Scf.Loop 32 :=
  let c1_i32_245 : BitVec 32 := 1#32
  let c3_i32_246 : BitVec 32 := 3#32
  let v197 : BitVec 32 := Scalar.addi c1_i32_245 c3_i32_246
  let c1_i32_247 : BitVec 32 := 1#32
  ⟨c1_i32_245, v197, c1_i32_247⟩
def k0_off3 (k0_t3 : Fin k0_t3_loop.trips) : Fin 3 → Nat :=
  let c0_1110 : Index := 0#32
  let c1_i32_245 : BitVec 32 := 1#32
  let c1_i32_247 : BitVec 32 := 1#32
  let arg18 : BitVec 32 := Scf.iv c1_i32_245 c1_i32_247 k0_t3
  let c1024_i32 : BitVec 32 := 1024#32
  let v797 : BitVec 32 := Scalar.muli arg18 c1024_i32
  let v798 : Index := Scalar.indexCast v797
  let c0_1111 : Index := 0#32
  ![0, v798.toNat, 0]
def k0_dev10 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_299 : BitVec 32 := 1#32
  let v229 : BitVec 32 := Scalar.muli v4 c1_i32_299
  let v230 : BitVec 32 := Scalar.addi c0_i32_300 v229
  v230.toNat
def k0_dev11 (d0 : Dev nD) : Nat :=
  let c0_i32_312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_311 : BitVec 32 := 1#32
  let v239 : BitVec 32 := Scalar.muli v4 c1_i32_311
  let v240 : BitVec 32 := Scalar.addi c0_i32_312 v239
  v240.toNat
def k0_dev12 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_334 : BitVec 32 := 1#32
  let v257 : BitVec 32 := Scalar.muli v4 c1_i32_334
  let v258 : BitVec 32 := Scalar.addi c0_i32_335 v257
  v258.toNat
@[reducible] def k0_t4_loop : Scf.Loop 32 :=
  let c1_i32_360 : BitVec 32 := 1#32
  let c3_i32_361 : BitVec 32 := 3#32
  let v284 : BitVec 32 := Scalar.addi c1_i32_360 c3_i32_361
  let c1_i32_362 : BitVec 32 := 1#32
  ⟨c1_i32_360, v284, c1_i32_362⟩
def k0_off4 (k0_t4 : Fin k0_t4_loop.trips) : Fin 3 → Nat :=
  let c0_1110 : Index := 0#32
  let c1_i32_360 : BitVec 32 := 1#32
  let c1_i32_362 : BitVec 32 := 1#32
  let arg18 : BitVec 32 := Scf.iv c1_i32_360 c1_i32_362 k0_t4
  let c1024_i32 : BitVec 32 := 1024#32
  let v797 : BitVec 32 := Scalar.muli arg18 c1024_i32
  let v798 : Index := Scalar.indexCast v797
  let c0_1111 : Index := 0#32
  ![0, v798.toNat, 0]
def k0_dev13 (d0 : Dev nD) : Nat :=
  let c0_i32_415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_414 : BitVec 32 := 1#32
  let v316 : BitVec 32 := Scalar.muli v4 c1_i32_414
  let v317 : BitVec 32 := Scalar.addi c0_i32_415 v316
  v317.toNat
def k0_dev14 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_426 : BitVec 32 := 1#32
  let v326 : BitVec 32 := Scalar.muli v4 c1_i32_426
  let v327 : BitVec 32 := Scalar.addi c0_i32_427 v326
  v327.toNat
def k0_dev15 (d0 : Dev nD) : Nat :=
  let c0_i32_450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_449 : BitVec 32 := 1#32
  let v344 : BitVec 32 := Scalar.muli v4 c1_i32_449
  let v345 : BitVec 32 := Scalar.addi c0_i32_450 v344
  v345.toNat
@[reducible] def k0_t5_loop : Scf.Loop 32 :=
  let c1_i32_475 : BitVec 32 := 1#32
  let c3_i32_476 : BitVec 32 := 3#32
  let v371 : BitVec 32 := Scalar.addi c1_i32_475 c3_i32_476
  let c1_i32_477 : BitVec 32 := 1#32
  ⟨c1_i32_475, v371, c1_i32_477⟩
def k0_off5 (k0_t5 : Fin k0_t5_loop.trips) : Fin 3 → Nat :=
  let c0_1110 : Index := 0#32
  let c1_i32_475 : BitVec 32 := 1#32
  let c1_i32_477 : BitVec 32 := 1#32
  let arg18 : BitVec 32 := Scf.iv c1_i32_475 c1_i32_477 k0_t5
  let c1024_i32 : BitVec 32 := 1024#32
  let v797 : BitVec 32 := Scalar.muli arg18 c1024_i32
  let v798 : Index := Scalar.indexCast v797
  let c0_1111 : Index := 0#32
  ![0, v798.toNat, 0]
def k0_dev16 (d0 : Dev nD) : Nat :=
  let c0_i32_530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_529 : BitVec 32 := 1#32
  let v403 : BitVec 32 := Scalar.muli v4 c1_i32_529
  let v404 : BitVec 32 := Scalar.addi c0_i32_530 v403
  v404.toNat
def k0_dev17 (d0 : Dev nD) : Nat :=
  let c0_i32_542 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_541 : BitVec 32 := 1#32
  let v413 : BitVec 32 := Scalar.muli v4 c1_i32_541
  let v414 : BitVec 32 := Scalar.addi c0_i32_542 v413
  v414.toNat
def k0_dev18 (d0 : Dev nD) : Nat :=
  let c0_i32_565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_564 : BitVec 32 := 1#32
  let v431 : BitVec 32 := Scalar.muli v4 c1_i32_564
  let v432 : BitVec 32 := Scalar.addi c0_i32_565 v431
  v432.toNat
@[reducible] def k0_t6_loop : Scf.Loop 32 :=
  let c1_i32_590 : BitVec 32 := 1#32
  let c3_i32_591 : BitVec 32 := 3#32
  let v458 : BitVec 32 := Scalar.addi c1_i32_590 c3_i32_591
  let c1_i32_592 : BitVec 32 := 1#32
  ⟨c1_i32_590, v458, c1_i32_592⟩
def k0_off6 (k0_t6 : Fin k0_t6_loop.trips) : Fin 3 → Nat :=
  let c0_1110 : Index := 0#32
  let c1_i32_590 : BitVec 32 := 1#32
  let c1_i32_592 : BitVec 32 := 1#32
  let arg18 : BitVec 32 := Scf.iv c1_i32_590 c1_i32_592 k0_t6
  let c1024_i32 : BitVec 32 := 1024#32
  let v797 : BitVec 32 := Scalar.muli arg18 c1024_i32
  let v798 : Index := Scalar.indexCast v797
  let c0_1111 : Index := 0#32
  ![0, v798.toNat, 0]
def k0_dev19 (d0 : Dev nD) : Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_644 : BitVec 32 := 1#32
  let v490 : BitVec 32 := Scalar.muli v4 c1_i32_644
  let v491 : BitVec 32 := Scalar.addi c0_i32_645 v490
  v491.toNat
def k0_dev20 (d0 : Dev nD) : Nat :=
  let c0_i32_657 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_656 : BitVec 32 := 1#32
  let v500 : BitVec 32 := Scalar.muli v4 c1_i32_656
  let v501 : BitVec 32 := Scalar.addi c0_i32_657 v500
  v501.toNat
def k0_dev21 (d0 : Dev nD) : Nat :=
  let c0_i32_680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_679 : BitVec 32 := 1#32
  let v518 : BitVec 32 := Scalar.muli v4 c1_i32_679
  let v519 : BitVec 32 := Scalar.addi c0_i32_680 v518
  v519.toNat
@[reducible] def k0_t7_loop : Scf.Loop 32 :=
  let c1_i32_705 : BitVec 32 := 1#32
  let c3_i32_706 : BitVec 32 := 3#32
  let v545 : BitVec 32 := Scalar.addi c1_i32_705 c3_i32_706
  let c1_i32_707 : BitVec 32 := 1#32
  ⟨c1_i32_705, v545, c1_i32_707⟩
def k0_off7 (k0_t7 : Fin k0_t7_loop.trips) : Fin 3 → Nat :=
  let c0_1110 : Index := 0#32
  let c1_i32_705 : BitVec 32 := 1#32
  let c1_i32_707 : BitVec 32 := 1#32
  let arg18 : BitVec 32 := Scf.iv c1_i32_705 c1_i32_707 k0_t7
  let c1024_i32 : BitVec 32 := 1024#32
  let v797 : BitVec 32 := Scalar.muli arg18 c1024_i32
  let v798 : Index := Scalar.indexCast v797
  let c0_1111 : Index := 0#32
  ![0, v798.toNat, 0]
def k0_dev22 (d0 : Dev nD) : Nat :=
  let c0_i32_760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_759 : BitVec 32 := 1#32
  let v577 : BitVec 32 := Scalar.muli v4 c1_i32_759
  let v578 : BitVec 32 := Scalar.addi c0_i32_760 v577
  v578.toNat
def k0_dev23 (d0 : Dev nD) : Nat :=
  let c0_i32_772 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_771 : BitVec 32 := 1#32
  let v587 : BitVec 32 := Scalar.muli v4 c1_i32_771
  let v588 : BitVec 32 := Scalar.addi c0_i32_772 v587
  v588.toNat
@[reducible] def k0_t8_loop : Scf.Loop 32 :=
  let c1_i32_809 : BitVec 32 := 1#32
  let c3_i32_810 : BitVec 32 := 3#32
  let v622 : BitVec 32 := Scalar.addi c1_i32_809 c3_i32_810
  let c1_i32_811 : BitVec 32 := 1#32
  ⟨c1_i32_809, v622, c1_i32_811⟩
def k0_off8 (k0_t8 : Fin k0_t8_loop.trips) : Fin 3 → Nat :=
  let c0_1110 : Index := 0#32
  let c1_i32_809 : BitVec 32 := 1#32
  let c1_i32_811 : BitVec 32 := 1#32
  let arg18 : BitVec 32 := Scf.iv c1_i32_809 c1_i32_811 k0_t8
  let c1024_i32 : BitVec 32 := 1024#32
  let v797 : BitVec 32 := Scalar.muli arg18 c1024_i32
  let v798 : Index := Scalar.indexCast v797
  let c0_1111 : Index := 0#32
  ![0, v798.toNat, 0]
def k0_dev24 (d0 : Dev nD) : Nat :=
  let c0_i32_871 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_870 : BitVec 32 := 1#32
  let v665 : BitVec 32 := Scalar.muli v4 c1_i32_870
  let v666 : BitVec 32 := Scalar.addi c0_i32_871 v665
  v666.toNat
abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x2048x1024 : Shape := ⟨3, ![1, 2048, 1024]⟩
abbrev S1024x1024 : Shape := ⟨2, ![1024, 1024]⟩
abbrev S1x32768x8x128 : Shape := ⟨4, ![1, 32768, 8, 128]⟩
abbrev S1x2048x8x128 : Shape := ⟨4, ![1, 2048, 8, 128]⟩
abbrev S1x8x2048x32768 : Shape := ⟨4, ![1, 8, 2048, 32768]⟩
abbrev S_ : Shape := ⟨0, ![]⟩
abbrev S1x8x2048 : Shape := ⟨3, ![1, 8, 2048]⟩
abbrev S1x8x2048x1 : Shape := ⟨4, ![1, 8, 2048, 1]⟩
abbrev S1x8x128x2048 : Shape := ⟨4, ![1, 8, 128, 2048]⟩
abbrev S1x2048x8x1 : Shape := ⟨4, ![1, 2048, 8, 1]⟩

abbrev nBuf : Space → Nat
  | .hbm => 27
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x32768x8x128, .f32⟩
  | .hbm, ⟨3, _⟩ => ⟨S1x32768x8x128, .f32⟩
  | .hbm, ⟨4, _⟩ => ⟨S1024x1024, .f32⟩
  | .hbm, ⟨5, _⟩ => ⟨S1x2048x1024, .f32⟩
  | .hbm, ⟨6, _⟩ => ⟨S1x2048x8x128, .f32⟩
  | .hbm, ⟨7, _⟩ => ⟨S1x8x2048x32768, .f32⟩
  | .hbm, ⟨8, _⟩ => ⟨S_, .f32⟩
  | .hbm, ⟨9, _⟩ => ⟨S1x8x2048x32768, .f32⟩
  | .hbm, ⟨10, _⟩ => ⟨S1x8x2048x32768, .f32⟩
  | .hbm, ⟨11, _⟩ => ⟨S_, .f32⟩
  | .hbm, ⟨12, _⟩ => ⟨S1x8x2048, .f32⟩
  | .hbm, ⟨13, _⟩ => ⟨S1x8x2048x1, .f32⟩
  | .hbm, ⟨14, _⟩ => ⟨S1x8x2048x32768, .f32⟩
  | .hbm, ⟨15, _⟩ => ⟨S1x8x2048x32768, .f32⟩
  | .hbm, ⟨16, _⟩ => ⟨S1x8x2048x32768, .f32⟩
  | .hbm, ⟨17, _⟩ => ⟨S_, .f32⟩
  | .hbm, ⟨18, _⟩ => ⟨S1x8x2048, .f32⟩
  | .hbm, ⟨19, _⟩ => ⟨S1x8x2048x1, .f32⟩
  | .hbm, ⟨20, _⟩ => ⟨S1x8x128x2048, .f32⟩
  | .hbm, ⟨21, _⟩ => ⟨S1x2048x8x128, .f32⟩
  | .hbm, ⟨22, _⟩ => ⟨S1x2048x8x1, .f32⟩
  | .hbm, ⟨23, _⟩ => ⟨S1x2048x8x128, .f32⟩
  | .hbm, ⟨24, _⟩ => ⟨S1x2048x8x128, .f32⟩
  | .hbm, ⟨25, _⟩ => ⟨S1x2048x1024, .f32⟩
  | .hbm, ⟨26, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Hops.lean ====
/-
The kernel body read hop by hop. The printed body cuts its statements at fixed counts; here the same statements are
grouped by what they do: one hop of the ring at a slot number `h`, given once for every slot. `body_eq` says that the
printed body is this program.
-/
module

public import proofs.«01_k».proof.Proof.Gen.KernelIdeal.Skeleton
public import proofs.«01_k».proof.Proof.Gen.KernelIdeal.Points

@[expose] public section

noncomputable section

namespace Cert.Proof.Ring

open Idealize.ShloMosaic Idealize.SL.Sem Cert.KernelIdeal Cert.KernelIdeal.Gen

variable {F : FTy → Type} [FloatOps F]

/-! ## The buffers and their slots -/

abbrev qI : Memref sig .tc .vmem S8x256x128 .bf16 := Memref.whole cc0_stg0_0
abbrev kI : Memref sig .tc .vmem S8x4096x128 .bf16 := Memref.whole cc0_stg1_0
abbrev vI : Memref sig .tc .vmem S8x4096x128 .bf16 := Memref.whole cc0_stg2_0
abbrev outM : Memref sig .tc .vmem S8x256x128 .bf16 := Memref.whole cc0_stg3_0
abbrev qM : Memref sig .tc .vmem S8x8x256x128 .bf16 := Memref.whole cc0_scratch0
abbrev oM : Memref sig .tc .vmem S8x8x256x128 .f32 := Memref.whole cc0_scratch1
abbrev mM : Memref sig .tc .vmem S8x1x8x256 .f32 := Memref.whole cc0_scratch2
abbrev olM : Memref sig .tc .vmem S8x256x128 .f32 := Memref.whole cc0_scratch3
abbrev mlM : Memref sig .tc .vmem S1x8x256 .f32 := Memref.whole cc0_scratch4
abbrev finM : Memref sig .tc .vmem S8x256x128 .bf16 := Memref.whole cc0_scratch5

/-- Slot `h` of an eight-slot buffer lies inside it. -/
theorem inbB (h : Fin 8) : ∀ a, (![h.val, 0, 0, 0] : Fin 4 → Nat) a + S1x8x256x128.size a ≤ S8x8x256x128.size a := by revert h; decide
theorem inbM (h : Fin 8) : ∀ a, (![h.val, 0, 0, 0] : Fin 4 → Nat) a + S1x1x8x256.size a ≤ S8x1x8x256.size a := by revert h; decide
theorem inbS (h : Fin 8) : ∀ a, (![h.val] : Fin 1 → Nat) a + S1.size a ≤ S8.size a := by revert h; decide

/-- The rectangle of slot `h`. -/
abbrev rB (h : Fin 8) : Rect S8x8x256x128 := Rect.unit (s := S8x8x256x128) ![h.val, 0, 0, 0] S1x8x256x128.size (inbB h)
abbrev rM (h : Fin 8) : Rect S8x1x8x256 := Rect.unit (s := S8x1x8x256) ![h.val, 0, 0, 0] S1x1x8x256.size (inbM h)

theorem packedB (h : Fin 8) : (rB h).PackedRows (EltTy.packing .bf16) := by revert h; decide
theorem wordsB (h : Fin 8) : (rB h).WholeWords (EltTy.packing .bf16) := by revert h; decide

/-- Slot `h` of the ring buffers for queries, numerators and denominators. -/
abbrev qS (h : Fin 8) : Memref sig .tc .vmem S8x256x128 .bf16 := (qM.slice (rB h) (fun _ => rfl)).squeeze S8x256x128 squeezes_S1x8x256x128_S8x256x128
abbrev oS (h : Fin 8) : Memref sig .tc .vmem S8x256x128 .f32 := (oM.slice (rB h) (fun _ => rfl)).squeeze S8x256x128 squeezes_S1x8x256x128_S8x256x128
abbrev mS (h : Fin 8) : Memref sig .tc .vmem S1x8x256 .f32 := (mM.slice (rM h) (fun _ => rfl)).squeeze S1x8x256 squeezes_S1x1x8x256_S1x8x256

/-- Entry `h` of an array of eight DMA semaphores. -/
abbrev at8 (a : DmaSems sig S8) (h : Fin 8) : DmaSem sig := ((a.slice (Rect.unit (s := S8) ![h.val] S1.size (inbS h))).squeeze S_ squeezes_S1_S_).sem

theorem wordsQ (h : Fin 8) : (qS h).view.WordExact := ((Memref.isWhole_whole cc0_scratch0).wordExact_slice rfl _ (wordsB h)).reshape _ _

/-! ## The pieces, each followed by the program `K` -/

/-- The neighbour that the transfers address. -/
abbrev rightOf (d : Dev nD) : Dev nD := ⟨k0_dev3 d, k0_dev3_lt d⟩
abbrev leftOf (d : Dev nD) : Dev nD := ⟨k0_dev1 d, k0_dev1_lt d⟩

/-- The kernel programs over float values `F`. -/
abbrev PB (F : FTy → Type) : Type _ := Prog (TpuEff nD τ sig (Elt F) Λ₀ .tc) PUnit

def sendQ (h : Fin 7) (r : Dev nD) (K : PB F) : PB F :=
  .op (.enqueueDma (qS h.castSucc) (.remote (Dev.tc r) (qS h.succ) (.dma (at8 cc0_scratch6 h.castSucc))) (.dma (at8 cc0_scratch7 h.succ))
    (wordsQ _) (wordsQ _) ⟨⟨rfl, Or.inl rfl⟩, trivial⟩) fun _ => K
def sendO (h : Fin 7) (r : Dev nD) (K : PB F) : PB F :=
  .op (.enqueueDma (oS h.castSucc) (.remote (Dev.tc r) (oS h.succ) (.dma (at8 cc0_scratch8 h.castSucc))) (.dma (at8 cc0_scratch9 h.succ))
    ((View.wordExact_bits rfl).reshape _ _) ((View.wordExact_bits rfl).reshape _ _) ⟨⟨rfl, Or.inl rfl⟩, trivial⟩) fun _ => K
def sendM (h : Fin 7) (r : Dev nD) (K : PB F) : PB F :=
  .op (.enqueueDma (mS h.castSucc) (.remote (Dev.tc r) (mS h.succ) (.dma (at8 cc0_scratch10 h.castSucc))) (.dma (at8 cc0_scratch11 h.succ))
    ((View.wordExact_bits rfl).reshape _ _) ((View.wordExact_bits rfl).reshape _ _) ⟨⟨rfl, Or.inl rfl⟩, trivial⟩) fun _ => K

def sendFin (r : Dev nD) (K : PB F) : PB F :=
  .op (.enqueueDma finM (.remote (Dev.tc r) outM (.dma cc0_scratch12.sem)) (.dma cc0_scratch13.sem)
    (Memref.isWhole_whole cc0_scratch5).wordExact (Memref.isWhole_whole cc0_stg3_0).wordExact ⟨⟨rfl, Or.inl rfl⟩, trivial⟩) fun _ => K
def doneFin (K : PB F) : PB F :=
  .op (.waitDma2 cc0_scratch12.sem outM finM (Memref.isWhole_whole cc0_stg3_0).wordExact (Memref.isWhole_whole cc0_scratch5).wordExact) fun _ => K
def recvFin (K : PB F) : PB F :=
  .op (.waitDma2 cc0_scratch13.sem finM outM (Memref.isWhole_whole cc0_scratch5).wordExact (Memref.isWhole_whole cc0_stg3_0).wordExact) fun _ => K

def recvQ (h : Fin 8) (K : PB F) : PB F := .op (.waitDma2 (at8 cc0_scratch7 h) (qS h) (qS h) (wordsQ _) (wordsQ _)) fun _ => K
def recvO (h : Fin 8) (K : PB F) : PB F :=
  .op (.waitDma2 (at8 cc0_scratch9 h) (oS h) (oS h) ((View.wordExact_bits rfl).reshape _ _) ((View.wordExact_bits rfl).reshape _ _)) fun _ => K
def recvM (h : Fin 8) (K : PB F) : PB F :=
  .op (.waitDma2 (at8 cc0_scratch11 h) (mS h) (mS h) ((View.wordExact_bits rfl).reshape _ _) ((View.wordExact_bits rfl).reshape _ _)) fun _ => K

def doneQ (h : Fin 7) (K : PB F) : PB F := .op (.waitDma2 (at8 cc0_scratch6 h.castSucc) (qS h.succ) (qS h.castSucc) (wordsQ _) (wordsQ _)) fun _ => K
def doneO (h : Fin 7) (K : PB F) : PB F :=
  .op (.waitDma2 (at8 cc0_scratch8 h.castSucc) (oS h.succ) (oS h.castSucc) ((View.wordExact_bits rfl).reshape _ _) ((View.wordExact_bits rfl).reshape _ _)) fun _ => K
def doneM (h : Fin 7) (K : PB F) : PB F :=
  .op (.waitDma2 (at8 cc0_scratch10 h.castSucc) (mS h.succ) (mS h.castSucc) ((View.wordExact_bits rfl).reshape _ _) ((View.wordExact_bits rfl).reshape _ _)) fun _ => K

abbrev rAll : Rect S8x256x128 := Rect.unit (s := S8x256x128) ![0, 0, 0] S8x256x128.size inb_S8x256x128_S8x256x128_0_0_0
abbrev rMl : Rect S1x8x256 := Rect.unit (s := S1x8x256) ![0, 0, 0] S1x8x256.size inb_S1x8x256_S1x8x256_0_0_0
abbrev rK0 : Rect S8x4096x128 := Rect.unit (s := S8x4096x128) ![0, 0, 0] S8x1024x128.size inb_S8x4096x128_S8x1024x128_0_0_0
abbrev rK (t : Fin k0_t1_loop.trips) : Rect S8x4096x128 := Rect.unit (s := S8x4096x128) (k0_off1 t) S8x1024x128.size (k0_off1_inb t)

/-- Loads and stores of a slot and of the two local accumulators. -/
def ldB {e : EltTy} (m : Memref sig .tc .vmem S8x8x256x128 e) (h : Fin 8) (K : Vec F S1x8x256x128 e → PB F) : PB F :=
  .op (.load m (rB h).toLoadRect (View.loadsAt_vmem h_S1x8x256x128)) K
def ldM (h : Fin 8) (K : Vec F S1x1x8x256 .f32 → PB F) : PB F := .op (.load mM (rM h).toLoadRect (View.loadsAt_vmem h_S1x1x8x256)) K
def ldA {e : EltTy} (m : Memref sig .tc .vmem S8x256x128 e) (K : Vec F S8x256x128 e → PB F) : PB F := .op (.load m rAll.toLoadRect (View.loadsAt_vmem h_S8x256x128)) K
def ldMl (K : Vec F S1x8x256 .f32 → PB F) : PB F := .op (.load mlM rMl.toLoadRect (View.loadsAt_vmem h_S1x8x256)) K
def stQ (h : Fin 8) (v : Vec F S1x8x256x128 .bf16) (K : PB F) : PB F :=
  .op (.store qM (rB h) v Finset.univ (View.stores_vmem h_S1x8x256x128 ((Memref.isWhole_whole cc0_scratch0).storeExact_slice rfl _ (packedB h)) (fun _ => rfl)) (.inl rfl)) fun _ => K
def stO (h : Fin 8) (v : Vec F S1x8x256x128 .f32) (K : PB F) : PB F := .op (.store oM (rB h) v Finset.univ (View.stores_vmem_bits_univ h_S1x8x256x128 rfl) (.inl rfl)) fun _ => K
def stM (h : Fin 8) (v : Vec F S1x1x8x256 .f32) (K : PB F) : PB F := .op (.store mM (rM h) v Finset.univ (View.stores_vmem_bits_univ h_S1x1x8x256 rfl) (.inl rfl)) fun _ => K
def stOl (v : Vec F S8x256x128 .f32) (K : PB F) : PB F := .op (.store olM rAll v Finset.univ (View.stores_vmem_bits_univ h_S8x256x128 rfl) (.inl rfl)) fun _ => K
def stMl (v : Vec F S1x8x256 .f32) (K : PB F) : PB F := .op (.store mlM rMl v Finset.univ (View.stores_vmem_bits_univ h_S1x8x256 rfl) (.inl rfl)) fun _ => K
def stFin (v : Vec F S8x256x128 .bf16) (K : PB F) : PB F :=
  .op (.store finM rAll v Finset.univ (View.stores_vmem h_S8x256x128 ((Memref.isWhole_whole cc0_scratch5).storeExact_slice rfl _ packedbf16_S8x256x128_S8x256x128_0_0_0) (fun _ => rfl)) (.inl rfl)) fun _ => K
def ldK0 (m : Memref sig .tc .vmem S8x4096x128 .bf16) (K : Vec F S8x1024x128 .bf16 → PB F) : PB F := .op (.load m rK0.toLoadRect (View.loadsAt_vmem h_S8x1024x128)) K
def ldKt (m : Memref sig .tc .vmem S8x4096x128 .bf16) (t : Fin k0_t1_loop.trips) (K : Vec F S8x1024x128 .bf16 → PB F) : PB F :=
  .op (.load m (rK t).toLoadRect (View.loadsAt_vmem h_S8x1024x128)) K

/-- One trip of the loop over the later key blocks, for the queries in slot `h`. -/
def trip (h : Fin 8) (t : Fin k0_t1_loop.trips) (_ : Unit) : PB F :=
  ldB qM h fun q => ldKt kI t fun k => ldKt vI t fun v => ldMl fun l => ldMl fun _ => stMl (k0_pay6 q k l) <|
  ldA olM fun o => ldA olM fun _ => stOl (k0_pay7 q k v o) (.ret ⟨⟩)

/-- The local numerator and denominator of the queries in slot `h` against the device's own keys and values. -/
def localQ (h : Fin 8) (K : PB F) : PB F :=
  ldB qM h fun q => ldK0 kI fun k => ldK0 vI fun v => ldMl fun _ => stMl (k0_pay3 q k) <|
  ldA olM fun _ => stOl (k0_pay4 q k v) <|
  (Scf.Loop.for k0_t1_loop k0_t1_ok ⟨⟩ (trip h)).bind fun _ => K

/-- Hop 0 stores the local sums as the ones that travel. -/
def putLocal (K : PB F) : PB F := ldA olM fun o => ldB oM 0 fun _ => stO 0 (k0_pay8 o) <| ldMl fun l => ldM 0 fun _ => stM 0 (k0_pay9 l) K
/-- A later hop adds them to what arrived. -/
def addLocal (h : Fin 8) (K : PB F) : PB F :=
  ldM h fun m => ldMl fun l => ldM h fun _ => stM h (k0_pay18 m l) <| ldB oM h fun o => ldA olM fun ol => ldB oM h fun _ => stO h (k0_pay19 o ol) K

def hop0 (d : Dev nD) (K : PB F) : PB F := sendQ 0 (rightOf d) <| localQ 0 <| putLocal <| sendO 0 (rightOf d) <| sendM 0 (rightOf d) K
/-- Hop `h` for `1 ≤ h ≤ 6`. -/
def hop (h : Fin 7) (d : Dev nD) (K : PB F) : PB F :=
  recvQ h.castSucc <| sendQ h (rightOf d) <| localQ h.castSucc <| recvO h.castSucc <| recvM h.castSucc <| addLocal h.castSucc <| sendO h (rightOf d) <| sendM h (rightOf d) K
/-- The last hop, up to the result's block. -/
def hop7 (K : PB F) : PB F := recvQ 7 <| localQ 7 <| recvO 7 <| recvM 7 <| addLocal 7 K
/-- The division, and the block sent home. -/
def finish (d : Dev nD) (K : PB F) : PB F :=
  ldM 7 fun l => ldB oM 7 fun o => ldA finM fun _ => stFin (k0_pay75 l o) <|
  sendFin (rightOf d) <| doneFin <| recvFin K
def drain (h : Fin 7) (K : PB F) : PB F := doneQ h <| doneO h <| doneM h K

/-- The two signals, the wait, and the device's own queries put in slot 0. -/
def enter (K : Dev nD → PB F) : PB F :=
  .op .deviceId fun d => (semSignalWord (leftOf d) barrier0 1#32).bind fun _ => (semSignalWord (⟨k0_dev2 d, k0_dev2_lt d⟩ : Dev nD) barrier0 1#32).bind fun _ =>
  (semWaitWord barrier0 2#32).bind fun _ => ldA qI fun q => ldB qM 0 fun _ => stQ 0 (k0_pay1 q) (K d)

/-- The body, hop by hop. -/
def ringBody : PB F :=
  enter fun d => hop0 d <| hop 1 d <| hop 2 d <| hop 3 d <| hop 4 d <| hop 5 d <| hop 6 d <| hop7 <| finish d <|
  drain 0 <| drain 1 <| drain 2 <| drain 3 <| drain 4 <| drain 5 <| drain 6 (.ret ⟨⟩)

set_option maxRecDepth 100000 in
set_option maxHeartbeats 0 in
/-- The printed body is the body read hop by hop. -/
theorem body_eq (t : Fin cfg0.N) : bodyAt0 (F := F) t = ringBody := by
  simp only [bodyAt0, cc0__attn_body_eq_skeleton, cc0__attn_body_skel, k0_part34_eq_skeleton, k0_part34_skel, k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel,
    k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel,
    k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel,
    k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel,
    Prog.bind_assoc, Prog.bind_lift, Prog.bind_op, Prog.pure_eq_ret, Prog.bind_ret]
  unfold ringBody enter hop0 hop hop7 finish drain
  rfl

end Cert.Proof.Ring

end
-- ==== Proof.Values.lean ====
/-
What the ring computes, device by device: the query block that sits in each slot, the numerators and denominators that travel
with it, and the block that is sent home.
-/
module

public import proofs.«01_k».proof.Proof.Hops
import all proofs.«01_k».proof.Proof.Hops

@[expose] public section

noncomputable section

namespace Cert.Proof.Ring

open Idealize.ShloMosaic Idealize.SL.Sem Cert.KernelIdeal Cert.KernelIdeal.Gen

variable {F : FTy → Type} [FloatOps F]

/-! ## The ring of devices -/

/-- The device after `c`, which `c`'s transfers address. -/
def nxt (c : Dev nD) : Dev nD := ⟨(c.val + 1) % 8, Nat.mod_lt _ (by decide)⟩
/-- The device before `c`. -/
def prv (c : Dev nD) : Dev nD := ⟨(c.val + 7) % 8, Nat.mod_lt _ (by decide)⟩
theorem prv_nxt (c : Dev nD) : prv (nxt c) = c := by revert c; decide
theorem nxt_prv (c : Dev nD) : nxt (prv c) = c := by revert c; decide
theorem rightOf_eq (c : Dev nD) : rightOf c = nxt c := Fin.ext (k0_dev3_eq c)
theorem leftOf_eq (c : Dev nD) : leftOf c = prv c := Fin.ext (k0_dev1_eq c)
theorem right2_eq (c : Dev nD) : (⟨k0_dev2 c, k0_dev2_lt c⟩ : Dev nD) = nxt c := by revert c; decide
/-- The ring as a permutation. -/
def ring : Dev nD ≃ Dev nD := ⟨nxt, prv, prv_nxt, nxt_prv⟩

/-! ## The values -/

/-- What the three input windows hold on every device: queries, keys, values. -/
structure Data (F : FTy → Type) where
  q : Dev nD → Vec F S8x256x128 .bf16
  k : Dev nD → Vec F S8x4096x128 .bf16
  v : Dev nD → Vec F S8x4096x128 .bf16

variable (D : Data F)

/-- The first key (value) block, and block `t + 1`. -/
def blk0 (f : Vec F S8x4096x128 .bf16) : Vec F S8x1024x128 .bf16 := (kI.access rK0).read (Elt F) f
def blkS (t : Fin k0_t1_loop.trips) (f : Vec F S8x4096x128 .bf16) : Vec F S8x1024x128 .bf16 := (kI.access (rK t)).read (Elt F) f

/-- The local denominator of the queries `q` after the first block and `n` trips of the loop. -/
def denAt (q : Vec F S1x8x256x128 .bf16) (k : Vec F S8x4096x128 .bf16) : ℕ → Vec F S1x8x256 .f32
  | 0 => k0_pay3 q (blk0 k)
  | n + 1 => if h : n < k0_t1_loop.trips then k0_pay6 q (blkS ⟨n, h⟩ k) (denAt q k n) else denAt q k n
/-- The local numerator likewise. -/
def numAt (q : Vec F S1x8x256x128 .bf16) (k v : Vec F S8x4096x128 .bf16) : ℕ → Vec F S8x256x128 .f32
  | 0 => k0_pay4 q (blk0 k) (blk0 v)
  | n + 1 => if h : n < k0_t1_loop.trips then k0_pay7 q (blkS ⟨n, h⟩ k) (blkS ⟨n, h⟩ v) (numAt q k v n) else numAt q k v n

theorem denAt_succ (q : Vec F S1x8x256x128 .bf16) (k : Vec F S8x4096x128 .bf16) (t : Fin k0_t1_loop.trips) :
    denAt q k (t.val + 1) = k0_pay6 q (blkS t k) (denAt q k t.val) := by
  rw [denAt, dif_pos t.isLt]
theorem numAt_succ (q : Vec F S1x8x256x128 .bf16) (k v : Vec F S8x4096x128 .bf16) (t : Fin k0_t1_loop.trips) :
    numAt q k v (t.val + 1) = k0_pay7 q (blkS t k) (blkS t v) (numAt q k v t.val) := by
  rw [numAt, dif_pos t.isLt]

/-- The local sums of device `c` for the queries `q`. -/
def den (q : Vec F S1x8x256x128 .bf16) (c : Dev nD) : Vec F S1x8x256 .f32 := denAt q (D.k c) k0_t1_loop.trips
def num (q : Vec F S1x8x256x128 .bf16) (c : Dev nD) : Vec F S8x256x128 .f32 := numAt q (D.k c) (D.v c) k0_t1_loop.trips

/-- The queries in slot `h` of device `c`: those of the device `h` places before it. -/
def Qv : ℕ → Dev nD → Vec F S1x8x256x128 .bf16
  | 0, c => k0_pay1 (D.q c)
  | h + 1, c => Qv h (prv c)
/-- The numerator and the denominator in slot `h` of device `c`, its own sums added. -/
def Ov : ℕ → Dev nD → Vec F S1x8x256x128 .f32
  | 0, c => k0_pay8 (num D (Qv D 0 c) c)
  | h + 1, c => k0_pay19 (Ov h (prv c)) (num D (Qv D (h + 1) c) c)
def Mv : ℕ → Dev nD → Vec F S1x1x8x256 .f32
  | 0, c => k0_pay9 (den D (Qv D 0 c) c)
  | h + 1, c => k0_pay18 (Mv h (prv c)) (den D (Qv D (h + 1) c) c)

/-- What arrives in slot `h` of device `c`, before its own sums are added. -/
def Oin (h : ℕ) (c : Dev nD) : Vec F S1x8x256x128 .f32 := Ov D (h - 1) (prv c)
def Min (h : ℕ) (c : Dev nD) : Vec F S1x1x8x256 .f32 := Mv D (h - 1) (prv c)

/-- The block device `c` divides out at the end: the result of the device after it. -/
def Fin_ (c : Dev nD) : Vec F S8x256x128 .bf16 := k0_pay75 (Mv D 7 c) (Ov D 7 c)
/-- The result that arrives at device `c`. -/
def Res (c : Dev nD) : Vec F S8x256x128 .bf16 := Fin_ D (prv c)

end Cert.Proof.Ring

end
-- ==== Proof.Protocol.lean ====
/-
The protocol of the ring: which semaphore cell carries what, how much, and at which level.

A device signals both its neighbours and waits for both; its right neighbour's signal hands it that neighbour's slots 1 to 7 and
its output block, into which it will copy. Every transfer of slot h pays two cells of its own: the sender's send cell, which gives
the source back, and the receiver's receive cell, which gives the slot with what landed in it.
-/
module

public import proofs.«01_k».proof.Proof.Values
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic
import all proofs.«01_k».proof.Proof.Hops
import all proofs.«01_k».proof.Proof.Values

@[expose] public section

noncomputable section

namespace Cert.Proof.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB
/-- The resource algebra of the proof. -/
abbrev 𝕄R (F : FTy → Type) : Type := MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

variable (D : Data F)

/-! ## Owning what a view names -/

/-- Device `c` holds the elements the view `v` names, at share `q`, and through the view they read `V`. -/
def own {sp : Space} {s : Shape} {e : EltTy} (v : View sig .tc sp s e) (c : Dev nD) (q : PosShare TreeShare) (V : Vec F s e) : sProp (𝕄R F) :=
  iprop(∃ f : Buf (Elt F) (v.loc (c : Thread nD τ)), ⌜v.read (Elt F) f = V⌝ ∗ (v.loc (c : Thread nD τ) ↦[v.set]{q} f))
/-- The same with no value named. -/
def any {sp : Space} {s : Shape} {e : EltTy} (v : View sig .tc sp s e) (c : Dev nD) : sProp (𝕄R F) :=
  iprop(∃ f : Buf (Elt F) (v.loc (c : Thread nD τ)), (v.loc (c : Thread nD τ) ↦[v.set]{fullShare} f))

instance own_storable {sp : Space} {s : Shape} {e : EltTy} (v : View sig .tc sp s e) (c : Dev nD) (q : PosShare TreeShare) (V : Vec F s e) :
    BI.Storable (upEmb : UEmb _ (𝕄R F)) (own v c q V) := by unfold own; infer_instance
instance any_storable {sp : Space} {s : Shape} {e : EltTy} (v : View sig .tc sp s e) (c : Dev nD) :
    BI.Storable (upEmb : UEmb _ (𝕄R F)) (any v c) := by unfold any; infer_instance

theorem own_any {sp : Space} {s : Shape} {e : EltTy} (v : View sig .tc sp s e) (c : Dev nD) (V : Vec F s e) : own v c fullShare V ⊢ any v c := by
  unfold own any
  iintro ⟨%f, -, H⟩; iexists f; iexact H

/-- The views of slot `h` that loads and stores go through. -/
abbrev qA (h : Fin 8) : View sig .tc .vmem S1x8x256x128 .bf16 := qM.access (rB h)
abbrev oA (h : Fin 8) : View sig .tc .vmem S1x8x256x128 .f32 := oM.access (rB h)
abbrev mA (h : Fin 8) : View sig .tc .vmem S1x1x8x256 .f32 := mM.access (rM h)

/-! ## The cells -/

/-- Entry `h` of the semaphore array of family `f`: queries sent, queries received, numerators sent and received, denominators sent and received. -/
abbrev dsem (f : Fin 6) (h : Fin 8) : DmaSem sig :=
  match f with
  | 0 => at8 cc0_scratch6 h | 1 => at8 cc0_scratch7 h | 2 => at8 cc0_scratch8 h | 3 => at8 cc0_scratch9 h | 4 => at8 cc0_scratch10 h | 5 => at8 cc0_scratch11 h

/-- The cell of family `f`, slot `h`, on device `c`. -/
abbrev cell (f : Fin 6) (h : Fin 8) (c : Dev nD) : GSem nD τ sig := ((c : Thread nD τ), .dma (dsem f h))
abbrev barCell (c : Dev nD) : GSem nD τ sig := ((c : Thread nD τ), .reg barrier0)
abbrev fsCell (c : Dev nD) : GSem nD τ sig := ((c : Thread nD τ), .dma cc0_scratch12.sem)
abbrev frCell (c : Dev nD) : GSem nD τ sig := ((c : Thread nD τ), .dma cc0_scratch13.sem)

/-- What a semaphore is for. -/
inductive Kd where
  | bar | slot (f : Fin 6) (h : Fin 8) | fs | fr | non
  deriving DecidableEq

/-- The use of the DMA semaphore with number `n`. -/
def kdOf (n : ℕ) : Kd :=
  if n < 4 then .non
  else if n < 52 then .slot ⟨(n - 4) / 8 % 6, Nat.mod_lt _ (by decide)⟩ ⟨(n - 4) % 8, Nat.mod_lt _ (by decide)⟩
  else if n = 52 then .fs else .fr
/-- The use of a semaphore. -/
def kd : SemLoc sig → Kd
  | .reg _ => .bar
  | .dma s => kdOf s.val

theorem kd_bar : kd (.reg barrier0) = .bar := rfl
theorem kd_slot (f : Fin 6) (h : Fin 8) : kd (.dma (dsem f h)) = .slot f h := by revert f h; decide
theorem kd_fs : kd (.dma cc0_scratch12.sem) = .fs := by decide
theorem kd_fr : kd (.dma cc0_scratch13.sem) = .fr := by decide

/-- Whether slot `h` of family `f` is used: nothing is sent from slot 7, nothing arrives in slot 0. -/
def act : Fin 6 → Fin 8 → Bool
  | 0, h | 2, h | 4, h => h.val < 7
  | _, h => 0 < h.val

abbrev Nq : ℕ := (qS 0).view.dmaCredit
abbrev No : ℕ := (oS 0).view.dmaCredit
abbrev Nm : ℕ := (mS 0).view.dmaCredit
abbrev Nf : ℕ := (outM : Memref sig .tc .vmem S8x256x128 .bf16).view.dmaCredit
theorem Nq_pos : 0 < Nq := View.dmaCredit_pos _ (by decide)
theorem No_pos : 0 < No := View.dmaCredit_pos _ (by decide)
theorem Nm_pos : 0 < Nm := View.dmaCredit_pos _ (by decide)
theorem Nf_pos : 0 < Nf := View.dmaCredit_pos _ (by decide)

/-- The credit of one transfer of family `f`. -/
def amt : Fin 6 → ℕ
  | 0 | 1 => Nq | 2 | 3 => No | 4 | 5 => Nm
theorem amt_pos (f : Fin 6) : 0 < amt f := by fin_cases f <;> first | exact Nq_pos | exact No_pos | exact Nm_pos

/-! ## The payloads -/

/-- What the cell of family `f`, slot `h`, on device `c` is paid: the source of the transfer given back, or the slot with what landed. -/
def slotPay (f : Fin 6) (h : Fin 8) (c : Dev nD) : sProp (𝕄R F) :=
  match f with
  | 0 => own (qA h) c fullShare.left (Qv D h.val c)
  | 1 => own (qA h) c fullShare (Qv D h.val c)
  | 2 => own (oA h) c fullShare (Ov D h.val c)
  | 3 => own (oA h) c fullShare (Oin D h.val c)
  | 4 => own (mA h) c fullShare (Mv D h.val c)
  | 5 => own (mA h) c fullShare (Min D h.val c)

/-- Slot `h` of device `c` handed to its left neighbour, with the fact that its receive cells are open. -/
def lend (c : Dev nD) (h : Fin 7) : sProp (𝕄R F) :=
  iprop((any (qA h.succ) c ∗ any (oA h.succ) c ∗ any (mA h.succ) c)
    ∗ reached ER (cell 1 h.succ c) 0 ∗ reached ER (cell 3 h.succ c) 0 ∗ reached ER (cell 5 h.succ c) 0)
/-- All that device `c` hands to its left neighbour. -/
def barPay (c : Dev nD) : sProp (𝕄R F) :=
  iprop((bigSep Finset.univ fun h : Fin 7 => lend c h) ∗ any (outM : Memref sig .tc .vmem S8x256x128 .bf16).view c ∗ reached ER (frCell c) 0)

instance slotPay_storable (f : Fin 6) (h : Fin 8) (c : Dev nD) : BI.Storable (upEmb : UEmb _ (𝕄R F)) (slotPay D f h c) := by
  unfold slotPay; split <;> infer_instance
instance lend_storable (c : Dev nD) (h : Fin 7) : BI.Storable (upEmb : UEmb _ (𝕄R F)) (lend c h) := by unfold lend; infer_instance
instance barPay_storable (c : Dev nD) : BI.Storable (upEmb : UEmb _ (𝕄R F)) (barPay c) := by unfold barPay; infer_instance

/-! ## The schedule -/

/-- Round 0 of every used cell, one duty each; two on a barrier cell: `true` from the right neighbour, `false` from the left one. -/
def sched : Rounds.Schedule (GSem nD τ sig) Bool (𝕄R F) where
  duties g r := if r = 0 ∧ g.1.2 = .tc then
      (match kd g.2 with
      | .bar => Finset.univ
      | .slot f h => if act f h then {true} else ∅
      | .fs | .fr => {true}
      | .non => ∅)
    else ∅
  unitless _ := False
  amount g _ _ := match kd g.2 with
    | .bar => 1 | .slot f _ => amt f | .fs | .fr => Nf | .non => 1
  payload g _ d := match kd g.2 with
    | .bar => if d then barPay (nxt g.1.1) else iprop(emp)
    | .slot f h => slotPay D f h g.1.1
    | .fs => own (finM : Memref sig .tc .vmem S8x256x128 .bf16).view g.1.1 fullShare (Fin_ D g.1.1)
    | .fr => own (outM : Memref sig .tc .vmem S8x256x128 .bf16).view g.1.1 fullShare (Res D g.1.1)
    | .non => iprop(emp)
  amount_pos g _ _ _ := by
    cases kd g.2 with
    | bar => exact Nat.one_pos
    | slot f _ => exact amt_pos f
    | fs => exact Nf_pos
    | fr => exact Nf_pos
    | non => exact Nat.one_pos

instance sched_storable (g : GSem nD τ sig) (r : ℕ) (d : Bool) : BI.Storable (upEmb : UEmb _ (𝕄R F)) ((sched D).payload g r d) := by
  dsimp only [sched]
  split
  · split <;> infer_instance
  all_goals infer_instance

section Tables

variable (c : Dev nD)

theorem duties_bar : (sched D).duties (barCell c) 0 = Finset.univ := by dsimp only [sched]; rw [if_pos ⟨rfl, rfl⟩]; rfl
theorem duties_slot {f : Fin 6} {h : Fin 8} (ha : act f h = true) : (sched D).duties (cell f h c) 0 = {true} := by
  dsimp only [sched]; rw [if_pos ⟨rfl, rfl⟩, kd_slot]; exact if_pos ha
theorem duties_idle {f : Fin 6} {h : Fin 8} (ha : act f h = false) : (sched D).duties (cell f h c) 0 = ∅ := by
  dsimp only [sched]; rw [if_pos ⟨rfl, rfl⟩, kd_slot]; exact if_neg (by rw [ha]; decide)
theorem duties_fs : (sched D).duties (fsCell c) 0 = {true} := by dsimp only [sched]; rw [if_pos ⟨rfl, rfl⟩, kd_fs]
theorem duties_fr : (sched D).duties (frCell c) 0 = {true} := by dsimp only [sched]; rw [if_pos ⟨rfl, rfl⟩, kd_fr]
theorem duties_later (g : GSem nD τ sig) : ∀ r, 1 ≤ r → (sched D).duties g r = ∅ :=
  fun r hr => by dsimp only [sched]; rw [if_neg fun h => by omega]

theorem amount_bar (d : Bool) : (sched D).amount (barCell c) 0 d = 1 := rfl
theorem amount_slot (f : Fin 6) (h : Fin 8) (d : Bool) : (sched D).amount (cell f h c) 0 d = amt f := by dsimp only [sched]; rw [kd_slot]
theorem amount_fs (d : Bool) : (sched D).amount (fsCell c) 0 d = Nf := by dsimp only [sched]; rw [kd_fs]
theorem amount_fr (d : Bool) : (sched D).amount (frCell c) 0 d = Nf := by dsimp only [sched]; rw [kd_fr]

theorem expect_bar : (sched D).expect (barCell c) 0 = 2 := by
  unfold Schedule.expect Schedule.amountOf
  rw [duties_bar, Finset.sum_congr rfl fun d _ => amount_bar D c d, Finset.sum_const, Finset.card_univ, Fintype.card_bool, smul_eq_mul]
theorem expect_slot {f : Fin 6} {h : Fin 8} (ha : act f h = true) : (sched D).expect (cell f h c) 0 = amt f := by
  unfold Schedule.expect Schedule.amountOf; rw [duties_slot D c ha, Finset.sum_singleton, amount_slot]
theorem expect_fs : (sched D).expect (fsCell c) 0 = Nf := by
  unfold Schedule.expect Schedule.amountOf; rw [duties_fs, Finset.sum_singleton, amount_fs]
theorem expect_fr : (sched D).expect (frCell c) 0 = Nf := by
  unfold Schedule.expect Schedule.amountOf; rw [duties_fr, Finset.sum_singleton, amount_fr]

theorem payload_bar_true : (sched D).payload (barCell c) 0 true = barPay (nxt c) := by dsimp only [sched]; rw [kd_bar]; exact if_pos rfl
theorem payload_bar_false : (sched D).payload (barCell c) 0 false = iprop(emp) := by dsimp only [sched]; rw [kd_bar]; exact if_neg (by decide)
theorem payload_slot (f : Fin 6) (h : Fin 8) (d : Bool) : (sched D).payload (cell f h c) 0 d = slotPay D f h c := by dsimp only [sched]; rw [kd_slot]
theorem payload_fs (d : Bool) : (sched D).payload (fsCell c) 0 d = own (finM : Memref sig .tc .vmem S8x256x128 .bf16).view c fullShare (Fin_ D c) := by
  dsimp only [sched]; rw [kd_fs]
theorem payload_fr (d : Bool) : (sched D).payload (frCell c) 0 d = own (outM : Memref sig .tc .vmem S8x256x128 .bf16).view c fullShare (Res D c) := by
  dsimp only [sched]; rw [kd_fr]

theorem rest_bar : bigSep ((sched D).duties (barCell c) 0 \ ∅) (fun d => (sched D).payload (barCell c) 0 d) = iprop(emp ∗ barPay (nxt c)) := by
  rw [Finset.sdiff_empty, duties_bar, bigSep_univ_eq_bigSepL [false, true] (by decide) (by decide), bigSepL_cons_cons, bigSepL_singleton,
    payload_bar_false, payload_bar_true]
  rfl
theorem rest_slot {f : Fin 6} {h : Fin 8} (ha : act f h = true) :
    bigSep ((sched D).duties (cell f h c) 0 \ ∅) (fun d => (sched D).payload (cell f h c) 0 d) = slotPay D f h c := by
  rw [Finset.sdiff_empty, duties_slot D c ha, bigSep_singleton, payload_slot]
theorem rest_fs : bigSep ((sched D).duties (fsCell c) 0 \ ∅) (fun d => (sched D).payload (fsCell c) 0 d)
    = own (finM : Memref sig .tc .vmem S8x256x128 .bf16).view c fullShare (Fin_ D c) := by
  rw [Finset.sdiff_empty, duties_fs, bigSep_singleton, payload_fs]
theorem rest_fr : bigSep ((sched D).duties (frCell c) 0 \ ∅) (fun d => (sched D).payload (frCell c) 0 d)
    = own (outM : Memref sig .tc .vmem S8x256x128 .bf16).view c fullShare (Res D c) := by
  rw [Finset.sdiff_empty, duties_fr, bigSep_singleton, payload_fr]

end Tables

/-! ## What is owed, and the levels -/

/-- The receive credits that the transfers of hop `h` pay on the right neighbour. -/
def hopOwed (c : Dev nD) (h : Fin 7) : CellTallies nD τ sig Unit :=
  tallyAt (cell 5 h.succ (nxt c)) () Nm + tallyAt (cell 3 h.succ (nxt c)) () No + tallyAt (cell 1 h.succ (nxt c)) () Nq
/-- The credit of the result's block sent home. -/
def finOwed (c : Dev nD) : CellTallies nD τ sig Unit := tallyAt (frCell (nxt c)) () Nf
/-- What device `c` owes before it has sent anything of hop `h`, and after hop `h`. -/
def owedI (c : Dev nD) (h : Fin 7) : CellTallies nD τ sig Unit := finOwed c + ∑ j ∈ Finset.Ici h, hopOwed c j
def owedX (c : Dev nD) (h : Fin 7) : CellTallies nD τ sig Unit := finOwed c + ∑ j ∈ Finset.Ioi h, hopOwed c j
/-- What device `c` owes at the start: both barrier units too. -/
def owed₀ (c : Dev nD) : CellTallies nD τ sig Unit := owedI c 0 + tallyAt (barCell (nxt c)) () 1 + tallyAt (barCell (prv c)) () 1

theorem owedI_eq (c : Dev nD) (h : Fin 7) : owedI c h = owedX c h + hopOwed c h := by
  unfold owedI owedX
  rw [← Finset.Ioi_insert h, Finset.sum_insert (by simp), add_comm (hopOwed c h), add_assoc]
theorem owedX_eq (c : Dev nD) (h : Fin 6) : owedX c h.castSucc = owedI c h.succ := by
  unfold owedI owedX
  rw [show Finset.Ioi h.castSucc = Finset.Ici h.succ from by revert h; decide]
theorem owedX_last (c : Dev nD) : owedX c 6 = finOwed c := by
  unfold owedX
  rw [show Finset.Ioi (6 : Fin 7) = ∅ from by decide, Finset.sum_empty, add_zero]

def L (g : GSem nD τ sig) : Finset Unit := if g.1.2 = .tc then {()} else ∅
/-- Barriers at 1, the receive cells of slot `h` at `h + 1`, the final receive cell at 9, all else at 0. -/
def lv (g : GSem nD τ sig) (_ : Unit) : ℕ :=
  match kd g.2 with
  | .bar => 1
  | .slot f h => if f.val % 2 = 1 then h.val + 1 else 0
  | .fr => 9
  | _ => 0

theorem L_tc (c : Dev nD) (sm : SemLoc sig) : L ((c : Thread nD τ), sm) = {()} := if_pos rfl
theorem L_of_ne (g : GSem nD τ sig) (h : g.1.2 ≠ .tc) : L g = ∅ := if_neg h
theorem lv_bar (c : Dev nD) : lv (barCell c) () = 1 := rfl
theorem lv_slot (f : Fin 6) (h : Fin 8) (c : Dev nD) : lv (cell f h c) () = if f.val % 2 = 1 then h.val + 1 else 0 := by unfold lv; rw [kd_slot]
theorem lv_fr (c : Dev nD) : lv (frCell c) () = 9 := by unfold lv; rw [kd_fr]

/-- Whatever `O` counts lies on a core's cell above level `k`. -/
def Above (k : ℕ) (O : CellTallies nD τ sig Unit) : Prop := ∀ g u, 0 < O g u → u ∈ L g ∧ k < lv g u

theorem Above.add {k : ℕ} {O O' : CellTallies nD τ sig Unit} (h : Above k O) (h' : Above k O') : Above k (O + O') := fun g u hp => by
  rw [Pi.add_apply, Finsupp.add_apply] at hp
  rcases Nat.add_pos_iff_pos_or_pos.mp hp with hp | hp
  exacts [h g u hp, h' g u hp]
theorem Above.zero (k : ℕ) : Above k 0 := fun g u hp => absurd hp (Nat.lt_irrefl 0)
theorem Above.sum {k : ℕ} {ι : Type} [DecidableEq ι] (s : Finset ι) (f : ι → CellTallies nD τ sig Unit) (h : ∀ i ∈ s, Above k (f i)) : Above k (∑ i ∈ s, f i) := by
  induction s using Finset.induction_on with
  | empty => rw [Finset.sum_empty]; exact Above.zero k
  | insert a s ha ih =>
    rw [Finset.sum_insert ha]
    exact (h a (Finset.mem_insert_self _ _)).add (ih fun i hi => h i (Finset.mem_insert_of_mem hi))
theorem Above.tally {k : ℕ} {c : Dev nD} {sm : SemLoc sig} {n : ℕ} (h : k < lv ((c : Thread nD τ), sm) ()) : Above k (tallyAt ((c : Thread nD τ), sm) () n) := fun g u hp => by
  rw [tallyAt_apply] at hp
  by_cases hg : g = ((c : Thread nD τ), sm) ∧ u = ()
  · rw [hg.1, L_tc]; exact ⟨Finset.mem_singleton_self _, h⟩
  · rw [if_neg hg] at hp; exact absurd hp (Nat.lt_irrefl 0)

theorem above_hop (c : Dev nD) (h j : Fin 7) (hj : h ≤ j) : Above (h.val + 1) (hopOwed c j) := by
  have hj' : h.val ≤ j.val := hj
  unfold hopOwed
  refine ((Above.tally ?_).add (Above.tally ?_)).add (Above.tally ?_) <;>
    (rw [lv_slot, if_pos (by decide), Fin.val_succ]; omega)
theorem above_fin (c : Dev nD) (k : ℕ) (hk : k ≤ 8) : Above k (finOwed c) := Above.tally (by rw [lv_fr]; omega)
theorem above_owedI (c : Dev nD) (h : Fin 7) : Above (h.val + 1) (owedI c h) :=
  (above_fin c _ (by have := h.isLt; omega)).add (Above.sum _ _ fun j hj => above_hop c h j (Finset.mem_Ici.mp hj))
theorem above_owedX (c : Dev nD) (h : Fin 7) : Above (h.val + 1) (owedX c h) :=
  (above_fin c _ (by have := h.isLt; omega)).add (Above.sum _ _ fun j hj => above_hop c h j (le_of_lt (Finset.mem_Ioi.mp hj)))
theorem Above.mono {k k' : ℕ} {O : CellTallies nD τ sig Unit} (h : Above k O) (hk : k' ≤ k) : Above k' O :=
  fun g u hp => ⟨(h g u hp).1, lt_of_le_of_lt hk (h g u hp).2⟩
theorem above_owed₀ (c : Dev nD) : Above 0 (owed₀ c) :=
  (((above_owedI c 0).mono (Nat.zero_le _)).add (Above.tally (by rw [lv_bar]; decide))).add (Above.tally (by rw [lv_bar]; decide))

/-- A device may wait on a cell at or below a level that all it owes lies above. -/
theorem mayWait {k : ℕ} (c : Dev nD) (sm : SemLoc sig) (O : CellTallies nD τ sig Unit) (hs : lv ((c : Thread nD τ), sm) () ≤ k) (hO : Above k O) :
    (levAts L lv : sProp (𝕄R F)) ⊢ MayWait (c : Thread nD τ) sm () O :=
  MayOwe.of_cut (L := L) (lev := lv) k (fun p hp => by rw [Finset.mem_singleton.mp hp, L_tc]; exact Finset.mem_singleton_self _)
    (fun g u hg => (hO g u hg).1) (fun p hp => by rw [Finset.mem_singleton.mp hp]; exact hs) (fun g u hg => (hO g u hg).2)

end Cert.Proof.Ring

end
-- ==== Proof.Steps.lean ====
/-
One step at a time: a load, a store, a transfer, a wait, each over the ownership statements of the protocol.
-/
module

public import proofs.«01_k».proof.Proof.Protocol
public import Idealize.ShloMosaic.Lib.ViewIndex
import all proofs.«01_k».proof.Proof.Hops
import all proofs.«01_k».proof.Proof.Values
import all proofs.«01_k».proof.Proof.Protocol

@[expose] public section

noncomputable section

namespace Cert.Proof.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev 𝒱₀ : Variants := Variants.none

/-- The program `P` run on device `c` to the post-condition `Q`. -/
abbrev run (c : Dev nD) (P : PB F) (Q : PUnit → sProp (𝕄R F)) : sProp (𝕄R F) := wp frame (wpE (defs₀ (F := F)) 𝒱₀ (c : Thread nD τ) none) Set.univ P Q

variable (D : Data F)

/-- The empty program. -/
theorem run_ret {c : Dev nD} {Q : PUnit → sProp (𝕄R F)} : Q ⟨⟩ ⊢ run c (.ret ⟨⟩) Q := by
  show Q ⟨⟩ ⊢ wp frame (wpE (defs₀ (F := F)) 𝒱₀ (c : Thread nD τ) none) Set.univ (.ret ⟨⟩) Q
  rw [wp_ret]
  iintro H; imodintro; iexact H

/-! ## What every device knows -/

/-- The kernel's own semaphores: the six families, and the two of the final transfer. -/
abbrev KS : Type := (Fin 6 × Fin 8) ⊕ Bool
abbrev osem : KS → SemLoc sig
  | .inl fh => .dma (dsem fh.1 fh.2)
  | .inr false => .dma cc0_scratch12.sem
  | .inr true => .dma cc0_scratch13.sem
abbrev kcell (k : KS) (c : Dev nD) : GSem nD τ sig := ((c : Thread nD τ), osem k)

/-- Every cell of the protocol has its invariant, at the names `κ`. -/
def Inv (κ : GSem nD τ sig → ℕ) : sProp (𝕄R F) :=
  iprop((bigSep Finset.univ fun c : Dev nD => cellInv ER (sched D) (κ (barCell c)) (barCell c))
    ∗ bigSep Finset.univ fun ck : Dev nD × KS => cellInv ER (sched D) (κ (kcell ck.2 ck.1)) (kcell ck.2 ck.1))
/-- The names, the levels, that every barrier cell is open and that the device's own cells are. -/
def ctx (κ : GSem nD τ sig → ℕ) (c : Dev nD) : sProp (𝕄R F) :=
  iprop(Inv D κ ∗ levAts L lv ∗ (bigSep Finset.univ fun c : Dev nD => reached ER (barCell c) 0)
    ∗ bigSep Finset.univ fun k : KS => reached ER (kcell k c) 0)

instance Inv_persistent (κ : GSem nD τ sig → ℕ) : BI.Persistent (Inv D κ) := by unfold Inv; infer_instance
instance ctx_persistent (κ : GSem nD τ sig → ℕ) (c : Dev nD) : BI.Persistent (ctx D κ c) := by unfold ctx; infer_instance

variable (κ : GSem nD τ sig → ℕ) (c : Dev nD)

/-- One factor of a separated family. -/
theorem bigSep_at {I : Type} [DecidableEq I] [Fintype I] (Φ : I → sProp (𝕄R F)) (i : I) : bigSep Finset.univ Φ ⊢ Φ i := bigSep_elim (Finset.mem_univ i)

theorem ctx_bar (d : Dev nD) : ctx D κ c ⊢ cellInv ER (sched D) (κ (barCell d)) (barCell d) := by
  unfold ctx Inv
  iintro ⟨⟨H, -⟩, -⟩
  iapply (bigSep_at (fun c : Dev nD => cellInv ER (sched D) (κ (barCell c)) (barCell c)) d); iexact H
theorem ctx_own (k : KS) (d : Dev nD) : ctx D κ c ⊢ cellInv ER (sched D) (κ (kcell k d)) (kcell k d) := by
  unfold ctx Inv
  iintro ⟨⟨-, H⟩, -⟩
  iapply (bigSep_at (fun ck : Dev nD × KS => cellInv ER (sched D) (κ (kcell ck.2 ck.1)) (kcell ck.2 ck.1)) (d, k)); iexact H
theorem ctx_cell (f : Fin 6) (h : Fin 8) (d : Dev nD) : ctx D κ c ⊢ cellInv ER (sched D) (κ (cell f h d)) (cell f h d) := ctx_own D κ c (.inl (f, h)) d
theorem ctx_fs (d : Dev nD) : ctx D κ c ⊢ cellInv ER (sched D) (κ (fsCell d)) (fsCell d) := ctx_own D κ c (.inr false) d
theorem ctx_fr (d : Dev nD) : ctx D κ c ⊢ cellInv ER (sched D) (κ (frCell d)) (frCell d) := ctx_own D κ c (.inr true) d
theorem ctx_lev : ctx D κ c ⊢ levAts L lv := by
  unfold ctx
  iintro ⟨-, H, -⟩; iexact H
theorem ctx_reachedBar (d : Dev nD) : ctx D κ c ⊢ reached ER (barCell d) 0 := by
  unfold ctx
  iintro ⟨-, -, H, -⟩
  iapply (bigSep_at (fun c : Dev nD => (reached ER (barCell c) 0 : sProp (𝕄R F))) d); iexact H
theorem ctx_reached (k : KS) : ctx D κ c ⊢ reached ER (kcell k c) 0 := by
  unfold ctx
  iintro ⟨-, -, -, H⟩
  iapply (bigSep_at (fun k : KS => (reached ER (kcell k c) 0 : sProp (𝕄R F))) k); iexact H

/-- What device `c` owes, whatever it has waited for. -/
def owesE (O : CellTallies nD τ sig Unit) : sProp (𝕄R F) := iprop(∃ W : Waits sig Unit, owes (c : Thread nD τ) O W)

/-! ## Loads and stores -/

variable {D κ c}

theorem any_own {sp : Space} {s : Shape} {e : EltTy} (v : View sig .tc sp s e) : (any v c : sProp (𝕄R F)) ⊢ iprop(∃ V, own v c fullShare V) := by
  unfold any own
  iintro ⟨%f, H⟩; iexists (v.read (Elt F) f); iexists f
  isplitr; · ipureintro; rfl
  iexact H

/-- A load reads the value owned. -/
theorem load_own {s : Shape} {e : EltTy} {m : Memref sig .tc .vmem s e} {r : Rect s} {hl : m.view.LoadsAt r.toLoadRect} {k : Vec F r.shape e → PB F}
    {q : PosShare TreeShare} {V : Vec F r.shape e} {Q : PUnit → sProp (𝕄R F)} :
    own (m.access r) c q V ⊢ iprop((own (m.access r) c q V -∗ run c (k V) Q) -∗ run c (.op (.load m r.toLoadRect hl) k) Q) := by
  unfold own
  iintro ⟨%f, %hV, H⟩ Hk
  iapply (wp_load_rect 𝒱₀ (c : Thread nD τ) none Set.univ (m := m) (r := r) (hl := hl) (k := k) (S := (m.access r).set) (q := q) (f := f) subset_rfl) $$ H
  iintro H
  rw [hV]
  iapply Hk
  iexists f
  isplitr; · ipureintro; exact hV
  iexact H

/-- A load whose value is not used needs no value named. -/
theorem load_any {s : Shape} {e : EltTy} {m : Memref sig .tc .vmem s e} {r : Rect s} {hl : m.view.LoadsAt r.toLoadRect} {K : PB F}
    {Q : PUnit → sProp (𝕄R F)} :
    any (m.access r) c ⊢ iprop((any (m.access r) c -∗ run c K Q) -∗ run c (.op (.load m r.toLoadRect hl) fun _ => K) Q) := by
  iintro H Hk
  ihave H' := (any_own (m.access r)) $$ H
  icases H' with ⟨%V, H⟩
  iapply (load_own (hl := hl) (k := fun _ => K)) $$ H
  iintro H
  iapply Hk
  iapply (own_any (m.access r) c V); iexact H

/-- A load from a buffer held whole. -/
theorem load_of_whole {s : Shape} {e : EltTy} {m : Memref sig .tc .vmem s e} {r : Rect s} {hl : m.view.LoadsAt r.toLoadRect} {k : Vec F r.shape e → PB F}
    {q : PosShare TreeShare} {f : Buf (Elt F) ((m.access r).loc (c : Thread nD τ))} {Q : PUnit → sProp (𝕄R F)} :
    ((m.access r).loc (c : Thread nD τ) ↦{q} f) ⊢ iprop((((m.access r).loc (c : Thread nD τ) ↦{q} f) -∗ run c (k ((m.access r).read (Elt F) f)) Q)
      -∗ run c (.op (.load m r.toLoadRect hl) k) Q) :=
  wp_load_rect 𝒱₀ (c : Thread nD τ) none Set.univ (m := m) (r := r) (hl := hl) (k := k) (q := q) (f := f) (Finset.subset_univ _)

/-- A store through a rectangle leaves the value stored. -/
theorem store_own {s : Shape} {e : EltTy} {m : Memref sig .tc .vmem s e} {r : Rect s} {w : Vec F r.shape e} {hx : (m.access r).Stores Finset.univ}
    {hm : Finset.univ = Finset.univ ∨ ∀ a, r.stride a = 1} {K : PB F} {Q : PUnit → sProp (𝕄R F)} :
    any (m.access r) c ⊢ iprop((own (m.access r) c fullShare w -∗ run c K Q) -∗ run c (.op (.store m r w Finset.univ hx hm) fun _ => K) Q) := by
  unfold any own
  iintro ⟨%f, H⟩ Hk
  iapply (wp_store 𝒱₀ (c : Thread nD τ) none Set.univ (m := m) (r := r) (w := w) (Mk := Finset.univ) (hx := hx) (hm := hm) (k := fun _ => K)
    (S := (m.access r).set) (f := f) (by rw [View.setOn_univ])) $$ H
  iintro H
  iapply Hk
  iexists _
  isplitr
  · ipureintro; exact View.read_write_univ f w
  iexact H

/-! ## Transfers -/

/-- A view's contents read through its reshape: the same elements, the value reindexed. -/
theorem own_reshape {sp : Space} {s s' : Shape} {e : EltTy} (v : View sig .tc sp s e) (hh : s'.numel = s.numel) (d : Dev nD) (q : PosShare TreeShare) (V : Vec F s e) :
    own v d q V ⊢ own (v.reshape s' hh) d q (fun x => V (Shape.reshapeEquiv hh x)) := by
  unfold own
  rw [View.set_reshape]
  iintro ⟨%f, %hf, H⟩
  iexists f
  isplitr; · ipureintro; subst hf; rfl
  iexact H
/-- And back. -/
theorem own_unshape {sp : Space} {s s' : Shape} {e : EltTy} (v : View sig .tc sp s e) (hh : s'.numel = s.numel) (d : Dev nD) (q : PosShare TreeShare) (V : Vec F s e) :
    own (v.reshape s' hh) d q (fun x => V (Shape.reshapeEquiv hh x)) ⊢ own v d q V := by
  unfold own
  rw [View.set_reshape]
  iintro ⟨%f, %hf, H⟩
  iexists f
  isplitr
  · ipureintro
    funext x
    have := congrFun hf ((Shape.reshapeEquiv hh).symm x)
    simp only [Equiv.apply_symm_apply] at this
    rw [← this]
    show v.read (Elt F) f x = v.read (Elt F) f (Shape.reshapeEquiv hh ((Shape.reshapeEquiv hh).symm x))
    rw [Equiv.apply_symm_apply]
  iexact H
theorem any_reshape {sp : Space} {s s' : Shape} {e : EltTy} (v : View sig .tc sp s e) (hh : s'.numel = s.numel) (d : Dev nD) :
    any v d ⊢ (any (v.reshape s' hh) d : sProp (𝕄R F)) := by
  unfold any
  rw [View.set_reshape]

variable (D κ c)

/-- What the sender puts into a transfer beside the data: its two duty tokens, and that the receive cell is open. -/
def sendPre (fs fr : Fin 6) (h : Fin 7) : sProp (𝕄R F) :=
  iprop(dutyTok ER (cell fs h.castSucc c) 0 true ∗ dutyTok ER (cell fr h.succ (nxt c)) 0 true ∗ reached ER (cell fr h.succ (nxt c)) 0)

theorem act_send (h : Fin 7) : act 0 h.castSucc = true ∧ act 2 h.castSucc = true ∧ act 4 h.castSucc = true := by revert h; decide
theorem act_recv (h : Fin 7) : act 1 h.succ = true ∧ act 3 h.succ = true ∧ act 5 h.succ = true := by revert h; decide

variable {D κ c}

/-- A transfer to the right neighbour pays both its cells: the source goes to the sender's, the destination with the value to the receiver's. -/
theorem send_step {s : Shape} {e : EltTy} {src dst : Memref sig .tc .vmem s e} {sS sR : DmaSem sig} {hsc : dst.view.ref.isScScratch = false}
    {hsrc : src.view.WordExact} {hdst : dst.view.WordExact}
    {hsem : DmaTarget.Typed .vmem (.dma sR) (.remote (Dev.tc (nxt c) : Thread nD τ) dst (.dma sS) hsc)} {q : PosShare TreeShare} {V : Vec F s e} {N : ℕ}
    (hd₁ : (sched D).duties ((c : Thread nD τ), .dma sS) 0 = {true}) (hd₂ : (sched D).duties ((nxt c : Thread nD τ), .dma sR) 0 = {true})
    (hN : dst.view.dmaCredit = N) (hk₁ : (sched D).amount ((c : Thread nD τ), .dma sS) 0 true = N) (hk₂ : (sched D).amount ((nxt c : Thread nD τ), .dma sR) 0 true = N)
    (hi₁ : ctx D κ c ⊢ cellInv ER (sched D) (κ ((c : Thread nD τ), .dma sS)) ((c : Thread nD τ), .dma sS))
    (hi₂ : ctx D κ c ⊢ cellInv ER (sched D) (κ ((nxt c : Thread nD τ), .dma sR)) ((nxt c : Thread nD τ), .dma sR))
    (hr₁ : ctx D κ c ⊢ reached ER ((c : Thread nD τ), .dma sS) 0)
    (hp₁ : own src.view c q V ⊢ (sched D).payload ((c : Thread nD τ), .dma sS) 0 true)
    (hp₂ : own dst.view (nxt c) fullShare V ⊢ (sched D).payload ((nxt c : Thread nD τ), .dma sR) 0 true)
    (O : CellTallies nD τ sig Unit) {K : PB F} {Q : PUnit → sProp (𝕄R F)} :
    iprop(ctx D κ c ∗ own src.view c q V ∗ any dst.view (nxt c)
        ∗ (dutyTok ER ((c : Thread nD τ), .dma sS) 0 true ∗ dutyTok ER ((nxt c : Thread nD τ), .dma sR) 0 true ∗ reached ER ((nxt c : Thread nD τ), .dma sR) 0)
        ∗ owesE c (O + tallyAt ((nxt c : Thread nD τ), .dma sR) () N))
      ⊢ iprop(((cred (tallyAt ((c : Thread nD τ), .dma sS) () N) ∗ owesE c O) -∗ run c K Q)
        -∗ run c (.op (.enqueueDma src (.remote (Dev.tc (nxt c)) dst (.dma sS) hsc) (.dma sR) hsrc hdst hsem) fun _ => K) Q) := by
  unfold owesE
  iintro ⟨#Hc, Hs, Hd, ⟨Ht, Ht', Hr⟩, ⟨%W, HO⟩⟩ Hk
  ihave Hs' := (show own src.view c q V ⊢ iprop(∃ f : Buf (Elt F) (src.view.loc (c : Thread nD τ)), ⌜src.view.read (Elt F) f = V⌝ ∗ (src.view.loc (c : Thread nD τ) ↦[src.view.set]{q} f)) from .rfl) $$ Hs
  icases Hs' with ⟨%fs, %hfs, Hs⟩
  ihave Hd' := (show any dst.view (nxt c) ⊢ iprop(∃ f : Buf (Elt F) (dst.view.loc (nxt c : Thread nD τ)), (dst.view.loc (nxt c : Thread nD τ) ↦[dst.view.set]{fullShare} f)) from .rfl) $$ Hd
  icases Hd' with ⟨%fd, Hd⟩
  iapply (Rounds.wp_send_pointsTo 𝒱₀ ER (sched D) (c : Thread nD τ) none (c' := (nxt c : Thread nD τ)) (src := src) (dst := dst)
      (sS := .dma sS) (sem := .dma sR) (q := q) (fs := fs) (fd := fd) (k := fun _ => K)
      (κ₁ := κ ((c : Thread nD τ), .dma sS)) (κ₂ := κ ((nxt c : Thread nD τ), .dma sR)) (r₁ := 0) (r₂ := 0) (d₁ := true) (d₂ := true)
      (by rw [hd₁]; exact Finset.mem_singleton_self _) (by rw [hd₂]; exact Finset.mem_singleton_self _)
      () () N hN hk₁ hk₂ O rfl (W := W)
      (by refine BIBase.Entails.trans ?_ hp₁; unfold own; iintro H; iexists fs; isplitr; · ipureintro; exact hfs
          iexact H)
      (by
        refine BIBase.Entails.trans ?_ hp₂
        unfold own; iintro H; iexists _; isplitr
        · ipureintro; exact (View.read_write_univ fd _).trans hfs
        iexact H)) $$ [Hs Hd Ht Ht' Hr HO]
  · isplitr; · iapply hi₁; iexact Hc
    isplitr; · iapply hi₂; iexact Hc
    isplitl [Hs]; · iexact Hs
    isplitl [Hd]; · iexact Hd
    isplitl [HO]; · iexact HO
    isplitl [Ht]; · iexact Ht
    isplitr; · iapply hr₁; iexact Hc
    isplitl [Ht']; · iexact Ht'
    iexact Hr
  iintro ⟨Hcr, HO⟩
  iapply Hk
  isplitl [Hcr]; · iexact Hcr
  iexists W; iexact HO

theorem numelB : S8x256x128.numel = S1x8x256x128.numel := squeezes_S1x8x256x128_S8x256x128.numel_eq
theorem numelM : S1x8x256.numel = S1x1x8x256.numel := squeezes_S1x1x8x256_S1x8x256.numel_eq

/-- The slot a transfer names is the slot that loads and stores name, one unit axis dropped. -/
theorem qS_view (h : Fin 8) : (qS h).view = (qA h).reshape S8x256x128 numelB := rfl
theorem oS_view (h : Fin 8) : (oS h).view = (oA h).reshape S8x256x128 numelB := rfl
theorem mS_view (h : Fin 8) : (mS h).view = (mA h).reshape S1x8x256 numelM := rfl

/-- Hop `h`'s queries set off for the right neighbour, half of the source kept for reading. -/
theorem sendQ_step (h : Fin 7) (O : CellTallies nD τ sig Unit) {K : PB F} {Q : PUnit → sProp (𝕄R F)} :
    iprop(ctx D κ c ∗ own (qA h.castSucc) c fullShare.left (Qv D h.val c) ∗ any (qA h.succ) (nxt c) ∗ sendPre c 0 1 h
        ∗ owesE c (O + tallyAt (cell 1 h.succ (nxt c)) () Nq))
      ⊢ iprop(((cred (tallyAt (cell 0 h.castSucc c) () Nq) ∗ owesE c O) -∗ run c K Q) -∗ run c (sendQ h (nxt c) K) Q) := by
  unfold sendPre sendQ
  refine (sep_mono_right (sep_mono (own_reshape (qA h.castSucc) numelB c _ _) (sep_mono_left (any_reshape (qA h.succ) numelB (nxt c))))).trans ?_
  refine send_step (src := qS h.castSucc) (dst := qS h.succ) (sS := dsem 0 h.castSucc) (sR := dsem 1 h.succ) (N := Nq)
    (duties_slot D c (act_send h).1) (duties_slot D (nxt c) (act_recv h).1) rfl
    (amount_slot D c 0 _ true) (amount_slot D (nxt c) 1 _ true) (ctx_cell D κ c 0 h.castSucc c) (ctx_cell D κ c 1 h.succ (nxt c))
    (ctx_reached D κ c (.inl (0, h.castSucc))) ?_ ?_ O
  · rw [payload_slot]; exact own_unshape (qA h.castSucc) numelB c _ _
  · rw [payload_slot]
    refine (own_unshape (qA h.succ) numelB (nxt c) _ _).trans (Entails.of_eq ?_)
    show _ = own (qA h.succ) (nxt c) fullShare (Qv D h.val (prv (nxt c)))
    rw [prv_nxt]

/-- Hop `h`'s numerators set off. -/
theorem sendO_step (h : Fin 7) (O : CellTallies nD τ sig Unit) {K : PB F} {Q : PUnit → sProp (𝕄R F)} :
    iprop(ctx D κ c ∗ own (oA h.castSucc) c fullShare (Ov D h.val c) ∗ any (oA h.succ) (nxt c) ∗ sendPre c 2 3 h
        ∗ owesE c (O + tallyAt (cell 3 h.succ (nxt c)) () No))
      ⊢ iprop(((cred (tallyAt (cell 2 h.castSucc c) () No) ∗ owesE c O) -∗ run c K Q) -∗ run c (sendO h (nxt c) K) Q) := by
  unfold sendPre sendO
  refine (sep_mono_right (sep_mono (own_reshape (oA h.castSucc) numelB c _ _) (sep_mono_left (any_reshape (oA h.succ) numelB (nxt c))))).trans ?_
  refine send_step (src := oS h.castSucc) (dst := oS h.succ) (sS := dsem 2 h.castSucc) (sR := dsem 3 h.succ) (N := No)
    (duties_slot D c (act_send h).2.1) (duties_slot D (nxt c) (act_recv h).2.1) rfl
    (amount_slot D c 2 _ true) (amount_slot D (nxt c) 3 _ true) (ctx_cell D κ c 2 h.castSucc c) (ctx_cell D κ c 3 h.succ (nxt c))
    (ctx_reached D κ c (.inl (2, h.castSucc))) ?_ ?_ O
  · rw [payload_slot]; exact own_unshape (oA h.castSucc) numelB c _ _
  · rw [payload_slot]
    refine (own_unshape (oA h.succ) numelB (nxt c) _ _).trans (Entails.of_eq ?_)
    show _ = own (oA h.succ) (nxt c) fullShare (Ov D h.val (prv (nxt c)))
    rw [prv_nxt]

/-- Hop `h`'s denominators set off. -/
theorem sendM_step (h : Fin 7) (O : CellTallies nD τ sig Unit) {K : PB F} {Q : PUnit → sProp (𝕄R F)} :
    iprop(ctx D κ c ∗ own (mA h.castSucc) c fullShare (Mv D h.val c) ∗ any (mA h.succ) (nxt c) ∗ sendPre c 4 5 h
        ∗ owesE c (O + tallyAt (cell 5 h.succ (nxt c)) () Nm))
      ⊢ iprop(((cred (tallyAt (cell 4 h.castSucc c) () Nm) ∗ owesE c O) -∗ run c K Q) -∗ run c (sendM h (nxt c) K) Q) := by
  unfold sendPre sendM
  refine (sep_mono_right (sep_mono (own_reshape (mA h.castSucc) numelM c _ _) (sep_mono_left (any_reshape (mA h.succ) numelM (nxt c))))).trans ?_
  refine send_step (src := mS h.castSucc) (dst := mS h.succ) (sS := dsem 4 h.castSucc) (sR := dsem 5 h.succ) (N := Nm)
    (duties_slot D c (act_send h).2.2) (duties_slot D (nxt c) (act_recv h).2.2) rfl
    (amount_slot D c 4 _ true) (amount_slot D (nxt c) 5 _ true) (ctx_cell D κ c 4 h.castSucc c) (ctx_cell D κ c 5 h.succ (nxt c))
    (ctx_reached D κ c (.inl (4, h.castSucc))) ?_ ?_ O
  · rw [payload_slot]; exact own_unshape (mA h.castSucc) numelM c _ _
  · rw [payload_slot]
    refine (own_unshape (mA h.succ) numelM (nxt c) _ _).trans (Entails.of_eq ?_)
    show _ = own (mA h.succ) (nxt c) fullShare (Mv D h.val (prv (nxt c)))
    rw [prv_nxt]

/-- The result's block set off for home. -/
theorem sendFin_step {K : PB F} {Q : PUnit → sProp (𝕄R F)} :
    iprop(ctx D κ c ∗ own (finM : Memref sig .tc .vmem S8x256x128 .bf16).view c fullShare (Fin_ D c) ∗ any (outM : Memref sig .tc .vmem S8x256x128 .bf16).view (nxt c)
        ∗ (dutyTok ER (fsCell c) 0 true ∗ dutyTok ER (frCell (nxt c)) 0 true ∗ reached ER (frCell (nxt c)) 0) ∗ owesE c (finOwed c))
      ⊢ iprop(((cred (tallyAt (fsCell c) () Nf) ∗ owesE c 0) -∗ run c K Q) -∗ run c (sendFin (nxt c) K) Q) := by
  unfold sendFin finOwed
  rw [← zero_add (tallyAt (frCell (nxt c)) () Nf)]
  refine send_step (src := finM) (dst := outM) (sS := cc0_scratch12.sem) (sR := cc0_scratch13.sem) (N := Nf)
    (duties_fs D c) (duties_fr D (nxt c)) rfl (amount_fs D c true) (amount_fr D (nxt c) true) (ctx_fs D κ c c) (ctx_fr D κ c (nxt c))
    (ctx_reached D κ c (.inr false)) ?_ ?_ 0
  · rw [payload_fs]
  · rw [payload_fr]
    refine Entails.of_eq ?_
    show _ = own (outM : Memref sig .tc .vmem S8x256x128 .bf16).view (nxt c) fullShare (Fin_ D (prv (nxt c)))
    rw [prv_nxt]

/-! ## Waits -/

/-- A wait for the one transfer a cell expects brings that transfer's payload. -/
theorem wait_gen {sm : DmaSem sig} {N : ℕ} {P : sProp (𝕄R F)} (hi : ctx D κ c ⊢ cellInv ER (sched D) (κ ((c : Thread nD τ), .dma sm)) ((c : Thread nD τ), .dma sm))
    (he : (sched D).expect ((c : Thread nD τ), .dma sm) 0 = N)
    (hP : bigSep ((sched D).duties ((c : Thread nD τ), .dma sm) 0 \ ∅) (fun d => (sched D).payload ((c : Thread nD τ), .dma sm) 0 d) = P)
    {k : ℕ} {O : CellTallies nD τ sig Unit} (hlv : lv ((c : Thread nD τ), .dma sm) () ≤ k) (hO : Above k O)
    {s : Shape} {e : EltTy} {src dst : Memref sig .tc .vmem s e} {h₁ : src.view.WordExact} {h₂ : dst.view.WordExact} (hN : dst.view.dmaCredit = N)
    {K : PB F} {Q : PUnit → sProp (𝕄R F)} :
    iprop(ctx D κ c ∗ cred (tallyAt ((c : Thread nD τ), .dma sm) () N) ∗ atPos ER ((c : Thread nD τ), .dma sm) 0 ∅ 0 ∗ owesE c O)
      ⊢ iprop(((atPos ER ((c : Thread nD τ), .dma sm) 1 ∅ 0 ∗ owesE c O ∗ P) -∗ run c K Q)
        -∗ run c (.op (.waitDma2 sm src dst h₁ h₂) fun _ => K) Q) := by
  unfold owesE
  iintro ⟨#Hc, Hcr, Hat, ⟨%W, HO⟩⟩ Hk
  subst hN
  iapply (Rounds.wp_wait_rest_token 𝒱₀ ER (sched D) (c : Thread nD τ) none (κ := κ ((c : Thread nD τ), .dma sm)) (k := fun _ => K)
      (wpE_waitDma2_eq (src := src) (dst := dst) 𝒱₀ (c : Thread nD τ) none Set.univ) (Set.mem_univ _) () (O := O) (W := W) (R := 0) (m := 0) (T := ∅)
      ((Nat.zero_add _).trans he.symm)) $$ [Hcr HO Hat]
  · isplitr; · iapply hi; iexact Hc
    isplitl [Hcr]; · iexact Hcr
    isplitl [HO]; · iexact HO
    isplitr
    · iapply (mayWait c (.dma sm) O hlv hO); iapply (ctx_lev D κ c); iexact Hc
    iexact Hat
  iintro ⟨HO, Hat, -, Hp⟩
  ihave Hp' := (Entails.of_eq hP) $$ Hp
  iapply Hk
  isplitl [Hat]; · iexact Hat
  isplitl [HO]; · iexists _; iexact HO
  iexact Hp'

/-- The same for a used cell of the six families. -/
theorem wait_step {f : Fin 6} {h : Fin 8} (ha : act f h = true) {k : ℕ} {O : CellTallies nD τ sig Unit} (hlv : lv (cell f h c) () ≤ k) (hO : Above k O)
    {s : Shape} {e : EltTy} {src dst : Memref sig .tc .vmem s e} {h₁ : src.view.WordExact} {h₂ : dst.view.WordExact} (hN : dst.view.dmaCredit = amt f)
    {K : PB F} {Q : PUnit → sProp (𝕄R F)} :
    iprop(ctx D κ c ∗ cred (tallyAt (cell f h c) () (amt f)) ∗ atPos ER (cell f h c) 0 ∅ 0 ∗ owesE c O)
      ⊢ iprop(((atPos ER (cell f h c) 1 ∅ 0 ∗ owesE c O ∗ slotPay D f h c) -∗ run c K Q)
        -∗ run c (.op (.waitDma2 (dsem f h) src dst h₁ h₂) fun _ => K) Q) :=
  wait_gen (ctx_cell D κ c f h c) (expect_slot D c ha) (rest_slot D c ha) hlv hO hN

/-- A transfer's credit is that of its shape and element type. -/
theorem credit_tile {s : Shape} {e : EltTy} (m : Memref sig .tc .vmem s e) : m.view.dmaCredit = RefSig.tileCredit s e := rfl

/-- The wait for the block just sent gives its source back. -/
theorem doneFin_step {K : PB F} {Q : PUnit → sProp (𝕄R F)} :
    iprop(ctx D κ c ∗ cred (tallyAt (fsCell c) () Nf) ∗ atPos ER (fsCell c) 0 ∅ 0 ∗ owesE c 0)
      ⊢ iprop(((atPos ER (fsCell c) 1 ∅ 0 ∗ owesE c 0 ∗ own (finM : Memref sig .tc .vmem S8x256x128 .bf16).view c fullShare (Fin_ D c)) -∗ run c K Q)
        -∗ run c (doneFin K) Q) :=
  wait_gen (ctx_fs D κ c c) (expect_fs D c) (rest_fs D c) le_rfl (Above.zero _) ((credit_tile finM).trans (credit_tile outM).symm)
/-- The wait for the block that comes home. -/
theorem recvFin_step {K : PB F} {Q : PUnit → sProp (𝕄R F)} :
    iprop(ctx D κ c ∗ cred (tallyAt (frCell c) () Nf) ∗ atPos ER (frCell c) 0 ∅ 0 ∗ owesE c 0)
      ⊢ iprop(((atPos ER (frCell c) 1 ∅ 0 ∗ owesE c 0 ∗ own (outM : Memref sig .tc .vmem S8x256x128 .bf16).view c fullShare (Res D c)) -∗ run c K Q)
        -∗ run c (recvFin K) Q) :=
  wait_gen (ctx_fr D κ c c) (expect_fr D c) (rest_fr D c) le_rfl (Above.zero _) rfl

end Cert.Proof.Ring

end
-- ==== Proof.Local.lean ====
/-
The computation between the transfers: the local numerator and denominator of the queries in a slot, the first store of them, and
their addition to what arrived.
-/
module

public import proofs.«01_k».proof.Proof.Steps
import all proofs.«01_k».proof.Proof.Hops
import all proofs.«01_k».proof.Proof.Values
import all proofs.«01_k».proof.Proof.Protocol
import all proofs.«01_k».proof.Proof.Steps

@[expose] public section

noncomputable section

namespace Cert.Proof.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Pieces -/

section Pieces

variable {c : Dev nD} {Q : PUnit → sProp (𝕄R F)}

theorem ldB_step {e : EltTy} {m : Memref sig .tc .vmem S8x8x256x128 e} {h : Fin 8} {q : PosShare TreeShare} {V : Vec F S1x8x256x128 e} {K : Vec F S1x8x256x128 e → PB F} :
    own (m.access (rB h)) c q V ⊢ iprop((own (m.access (rB h)) c q V -∗ run c (K V) Q) -∗ run c (ldB m h K) Q) := load_own
theorem ldB_any {e : EltTy} {m : Memref sig .tc .vmem S8x8x256x128 e} {h : Fin 8} {K : PB F} :
    any (m.access (rB h)) c ⊢ iprop((any (m.access (rB h)) c -∗ run c K Q) -∗ run c (ldB m h fun _ => K) Q) := load_any
theorem ldM_step {h : Fin 8} {q : PosShare TreeShare} {V : Vec F S1x1x8x256 .f32} {K : Vec F S1x1x8x256 .f32 → PB F} :
    own (mA h) c q V ⊢ iprop((own (mA h) c q V -∗ run c (K V) Q) -∗ run c (ldM h K) Q) := load_own
theorem ldM_any {h : Fin 8} {K : PB F} : any (mA h) c ⊢ iprop((any (mA h) c -∗ run c K Q) -∗ run c (ldM h fun _ => K) Q) := load_any
theorem ldA_step {e : EltTy} {m : Memref sig .tc .vmem S8x256x128 e} {q : PosShare TreeShare} {V : Vec F S8x256x128 e} {K : Vec F S8x256x128 e → PB F} :
    own (m.access rAll) c q V ⊢ iprop((own (m.access rAll) c q V -∗ run c (K V) Q) -∗ run c (ldA m K) Q) := load_own
theorem ldA_any {e : EltTy} {m : Memref sig .tc .vmem S8x256x128 e} {K : PB F} :
    any (m.access rAll) c ⊢ iprop((any (m.access rAll) c -∗ run c K Q) -∗ run c (ldA m fun _ => K) Q) := load_any
theorem ldMl_step {q : PosShare TreeShare} {V : Vec F S1x8x256 .f32} {K : Vec F S1x8x256 .f32 → PB F} :
    own (mlM.access rMl) c q V ⊢ iprop((own (mlM.access rMl) c q V -∗ run c (K V) Q) -∗ run c (ldMl K) Q) := load_own
theorem ldMl_any {K : PB F} : any (mlM.access rMl) c ⊢ iprop((any (mlM.access rMl) c -∗ run c K Q) -∗ run c (ldMl fun _ => K) Q) := load_any
theorem stQ_step {h : Fin 8} {v : Vec F S1x8x256x128 .bf16} {K : PB F} : any (qA h) c ⊢ iprop((own (qA h) c fullShare v -∗ run c K Q) -∗ run c (stQ h v K) Q) := store_own
theorem stO_step {h : Fin 8} {v : Vec F S1x8x256x128 .f32} {K : PB F} : any (oA h) c ⊢ iprop((own (oA h) c fullShare v -∗ run c K Q) -∗ run c (stO h v K) Q) := store_own
theorem stM_step {h : Fin 8} {v : Vec F S1x1x8x256 .f32} {K : PB F} : any (mA h) c ⊢ iprop((own (mA h) c fullShare v -∗ run c K Q) -∗ run c (stM h v K) Q) := store_own
theorem stOl_step {v : Vec F S8x256x128 .f32} {K : PB F} : any (olM.access rAll) c ⊢ iprop((own (olM.access rAll) c fullShare v -∗ run c K Q) -∗ run c (stOl v K) Q) := store_own
theorem stMl_step {v : Vec F S1x8x256 .f32} {K : PB F} : any (mlM.access rMl) c ⊢ iprop((own (mlM.access rMl) c fullShare v -∗ run c K Q) -∗ run c (stMl v K) Q) := store_own
theorem stFin_step {v : Vec F S8x256x128 .bf16} {K : PB F} : any (finM.access rAll) c ⊢ iprop((own (finM.access rAll) c fullShare v -∗ run c K Q) -∗ run c (stFin v K) Q) := store_own

end Pieces

/-- The device's keys and values, in their staging buffers. -/
def KV (c : Dev nD) (fk fv : Vec F S8x4096x128 .bf16) : sProp (𝕄R F) :=
  iprop(((kI : Memref sig .tc .vmem S8x4096x128 .bf16).view.loc (c : Thread nD τ) ↦{fullShare} (fk : Buf (Elt F) ((kI : Memref sig .tc .vmem S8x4096x128 .bf16).view.loc (c : Thread nD τ))))
    ∗ ((vI : Memref sig .tc .vmem S8x4096x128 .bf16).view.loc (c : Thread nD τ) ↦{fullShare} (fv : Buf (Elt F) ((vI : Memref sig .tc .vmem S8x4096x128 .bf16).view.loc (c : Thread nD τ)))))
/-- The two local accumulators, holding anything. -/
def acc (c : Dev nD) : sProp (𝕄R F) := iprop(any (olM.access rAll) c ∗ any (mlM.access rMl) c)

variable {c : Dev nD} {Q : PUnit → sProp (𝕄R F)}

/-- The state of the local sums after `n` trips. -/
def LocI (c : Dev nD) (h : Fin 8) (q : PosShare TreeShare) (V : Vec F S1x8x256x128 .bf16) (fk fv : Vec F S8x4096x128 .bf16) (n : ℕ) : sProp (𝕄R F) :=
  iprop(own (qA h) c q V ∗ KV c fk fv ∗ own (olM.access rAll) c fullShare (numAt V fk fv n) ∗ own (mlM.access rMl) c fullShare (denAt V fk n))

/-- One trip adds one key block to the local sums. -/
theorem trip_step (h : Fin 8) (q : PosShare TreeShare) (V : Vec F S1x8x256x128 .bf16) (fk fv : Vec F S8x4096x128 .bf16) (t : Fin k0_t1_loop.trips) (u : Unit) :
    LocI c h q V fk fv t.val ⊢ run c (trip h t u) (fun _ => LocI c h q V fk fv (t.val + 1)) := by
  unfold LocI KV trip
  rw [numAt_succ, denAt_succ]
  iintro ⟨Hq, ⟨Hk, Hv⟩, Ho, Hm⟩
  iapply ldB_step $$ Hq; iintro Hq
  iapply (load_of_whole (m := kI) (r := rK t)) $$ Hk; iintro Hk
  iapply (load_of_whole (m := vI) (r := rK t)) $$ Hv; iintro Hv
  iapply ldMl_step $$ Hm; iintro Hm
  iapply ldMl_step $$ Hm; iintro Hm
  ihave Hm' := (own_any _ c _) $$ Hm
  iapply stMl_step $$ Hm'; iintro Hm
  iapply ldA_step $$ Ho; iintro Ho
  iapply ldA_step $$ Ho; iintro Ho
  ihave Ho' := (own_any _ c _) $$ Ho
  iapply stOl_step $$ Ho'; iintro Ho
  iapply run_ret
  isplitl [Hq]; · iexact Hq
  isplitl [Hk Hv]; · isplitl [Hk] <;> iassumption
  isplitl [Ho]; · iexact Ho
  iexact Hm

/-- The local sums of the queries in slot `h`. -/
theorem local_step (h : Fin 8) (q : PosShare TreeShare) (V : Vec F S1x8x256x128 .bf16) (fk fv : Vec F S8x4096x128 .bf16) {K : PB F} :
    iprop(own (qA h) c q V ∗ KV c fk fv ∗ acc c)
      ⊢ iprop((LocI c h q V fk fv k0_t1_loop.trips -∗ run c K Q) -∗ run c (localQ h K) Q) := by
  unfold KV acc localQ
  iintro ⟨Hq, ⟨Hk, Hv⟩, Ho, Hm⟩ HK
  iapply ldB_step $$ Hq; iintro Hq
  iapply (load_of_whole (m := kI) (r := rK0)) $$ Hk; iintro Hk
  iapply (load_of_whole (m := vI) (r := rK0)) $$ Hv; iintro Hv
  iapply ldMl_any $$ Hm; iintro Hm
  iapply stMl_step $$ Hm; iintro Hm
  iapply ldA_any $$ Ho; iintro Ho
  iapply stOl_step $$ Ho; iintro Ho
  iapply (Scf.wp_for_bind frame (wpE (defs₀ (F := F)) 𝒱₀ (c : Thread nD τ) none) Set.univ k0_t1_loop.lb k0_t1_loop.ub k0_t1_loop.st k0_t1_ok
    (⟨⟩ : Unit) (trip h) (fun n _ => LocI c h q V fk fv n) (fun t u => trip_step h q V fk fv t u)) $$ [Hq Hk Hv Ho Hm]
  · unfold LocI KV
    isplitl [Hq]; · iexact Hq
    isplitl [Hk Hv]; · isplitl [Hk] <;> iassumption
    isplitl [Ho]; · iexact Ho
    iexact Hm
  iintro %u HI
  iapply HK; iexact HI

variable {D : Data F}

/-- Hop 0's local sums become the ones that travel. -/
theorem putLocal_step {K : PB F} (nu : Vec F S8x256x128 .f32) (de : Vec F S1x8x256 .f32) :
    iprop((own (olM.access rAll) c fullShare nu ∗ own (mlM.access rMl) c fullShare de) ∗ any (oA 0) c ∗ any (mA 0) c)
      ⊢ iprop(((acc c ∗ own (oA 0) c fullShare (k0_pay8 nu) ∗ own (mA 0) c fullShare (k0_pay9 de)) -∗ run c K Q) -∗ run c (putLocal K) Q) := by
  unfold putLocal acc
  iintro ⟨⟨Hol, Hml⟩, Ho, Hm⟩ HK
  iapply ldA_step $$ Hol; iintro Hol
  iapply ldB_any $$ Ho; iintro Ho
  iapply stO_step $$ Ho; iintro Ho
  iapply ldMl_step $$ Hml; iintro Hml
  iapply ldM_any $$ Hm; iintro Hm
  iapply stM_step $$ Hm; iintro Hm
  iapply HK
  isplitl [Hol Hml]
  · isplitl [Hol]
    · iapply (own_any _ c _); iexact Hol
    · iapply (own_any _ c _); iexact Hml
  isplitl [Ho] <;> iassumption

/-- A later hop's local sums added to what arrived. -/
theorem addLocal_step {K : PB F} (h : Fin 8) (nu : Vec F S8x256x128 .f32) (de : Vec F S1x8x256 .f32) (vo : Vec F S1x8x256x128 .f32) (vm : Vec F S1x1x8x256 .f32) :
    iprop((own (olM.access rAll) c fullShare nu ∗ own (mlM.access rMl) c fullShare de) ∗ own (oA h) c fullShare vo ∗ own (mA h) c fullShare vm)
      ⊢ iprop(((acc c ∗ own (oA h) c fullShare (k0_pay19 vo nu) ∗ own (mA h) c fullShare (k0_pay18 vm de)) -∗ run c K Q) -∗ run c (addLocal h K) Q) := by
  unfold addLocal acc
  iintro ⟨⟨Hol, Hml⟩, Ho, Hm⟩ HK
  iapply ldM_step $$ Hm; iintro Hm
  iapply ldMl_step $$ Hml; iintro Hml
  iapply ldM_step $$ Hm; iintro Hm
  ihave Hm' := (own_any _ c _) $$ Hm
  iapply stM_step $$ Hm'; iintro Hm
  iapply ldB_step $$ Ho; iintro Ho
  iapply ldA_step $$ Hol; iintro Hol
  iapply ldB_step $$ Ho; iintro Ho
  ihave Ho' := (own_any _ c _) $$ Ho
  iapply stO_step $$ Ho'; iintro Ho
  iapply HK
  isplitl [Hol Hml]
  · isplitl [Hol]
    · iapply (own_any _ c _); iexact Hol
    · iapply (own_any _ c _); iexact Hml
  isplitl [Ho] <;> iassumption

end Cert.Proof.Ring

end
-- ==== Proof.Hop.lean ====
/-
The hops of the ring, each from what it takes to what it leaves: the entry, hop 0, a middle hop, the last hop, the division and the
block sent home, and the waits that give the sources back.
-/
module

public import proofs.«01_k».proof.Proof.Local
import all proofs.«01_k».proof.Proof.Hops
import all proofs.«01_k».proof.Proof.Values
import all proofs.«01_k».proof.Proof.Protocol
import all proofs.«01_k».proof.Proof.Steps
import all proofs.«01_k».proof.Proof.Local

@[expose] public section

noncomputable section

namespace Cert.Proof.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## What a hop takes and leaves -/

section Bundles

variable (D : Data F) (c : Dev nD)

/-- The duty tokens of hop `h`'s three transfers. -/
def toks (h : Fin 7) : sProp (𝕄R F) :=
  iprop((dutyTok ER (cell 0 h.castSucc c) 0 true ∗ dutyTok ER (cell 1 h.succ (nxt c)) 0 true)
    ∗ (dutyTok ER (cell 2 h.castSucc c) 0 true ∗ dutyTok ER (cell 3 h.succ (nxt c)) 0 true)
    ∗ (dutyTok ER (cell 4 h.castSucc c) 0 true ∗ dutyTok ER (cell 5 h.succ (nxt c)) 0 true))
/-- The receive cells of slot `h` not yet waited on, and the credit that will come. -/
def rcv (h : Fin 8) : sProp (𝕄R F) :=
  iprop((cred (tallyAt (cell 1 h c) () Nq) ∗ atPos ER (cell 1 h c) 0 ∅ 0)
    ∗ (cred (tallyAt (cell 3 h c) () No) ∗ atPos ER (cell 3 h c) 0 ∅ 0)
    ∗ (cred (tallyAt (cell 5 h c) () Nm) ∗ atPos ER (cell 5 h c) 0 ∅ 0))
/-- Three cells of slot `h` at round `r`: the receive cells for `b = 1`, the send cells for `b = 0`. -/
def at3 (a b d : Fin 6) (h : Fin 8) (r : ℕ) : sProp (𝕄R F) :=
  iprop(atPos ER (cell a h c) r ∅ 0 ∗ atPos ER (cell b h c) r ∅ 0 ∗ atPos ER (cell d h c) r ∅ 0)
abbrev rcvd (h : Fin 8) : sProp (𝕄R F) := at3 c 1 3 5 h 1
/-- The transfers of hop `h` set off: their send credits, and the half of the queries kept. -/
def sent (h : Fin 7) : sProp (𝕄R F) :=
  iprop(cred (tallyAt (cell 0 h.castSucc c) () Nq) ∗ cred (tallyAt (cell 2 h.castSucc c) () No) ∗ cred (tallyAt (cell 4 h.castSucc c) () Nm)
    ∗ own (qA h.castSucc) c fullShare.right (Qv D h.val c))
/-- Slot `h` with what it ends at. -/
def slotEnd (h : Fin 8) : sProp (𝕄R F) :=
  iprop(own (qA h) c fullShare (Qv D h.val c) ∗ own (oA h) c fullShare (Ov D h.val c) ∗ own (mA h) c fullShare (Mv D h.val c))

end Bundles

variable {D : Data F} {c : Dev nD} {κ : GSem nD τ sig → ℕ} {Q : PUnit → sProp (𝕄R F)}

theorem Ov_step (h : ℕ) (hh : 0 < h) : Ov D h c = k0_pay19 (Oin D h c) (num D (Qv D h c) c) := by
  obtain ⟨j, rfl⟩ : ∃ j, h = j + 1 := ⟨h - 1, by omega⟩
  rfl
theorem Mv_step (h : ℕ) (hh : 0 < h) : Mv D h c = k0_pay18 (Min D h c) (den D (Qv D h c) c) := by
  obtain ⟨j, rfl⟩ : ∃ j, h = j + 1 := ⟨h - 1, by omega⟩
  rfl

theorem half_join {ℓ : Loc nD τ sig} {S : Finset (Idx ℓ)} {f : Buf (Elt F) ℓ} :
    iprop((ℓ ↦[S]{fullShare.left} f) ∗ (ℓ ↦[S]{fullShare.right} f)) ⊢ (iprop(ℓ ↦[S]{fullShare} f) : sProp (𝕄R F)) :=
  (pointsTo_share (PosShare.mem_left_op_right fullShare)).2

/-- A view's ownership in two halves. -/
theorem own_halves {sp : Space} {s : Shape} {e : EltTy} (v : View sig .tc sp s e) (V : Vec F s e) :
    own v c fullShare V ⊢ iprop(own v c fullShare.left V ∗ own v c fullShare.right V) := by
  unfold own
  iintro ⟨%f, %hf, H⟩
  ihave H' := (pointsTo_share (PosShare.mem_left_op_right fullShare)).1 $$ H
  icases H' with ⟨H1, H2⟩
  isplitl [H1]
  · iexists f; isplitr; · ipureintro; exact hf
    iexact H1
  · iexists f; isplitr; · ipureintro; exact hf
    iexact H2
/-- The halves put together again. -/
theorem own_join {sp : Space} {s : Shape} {e : EltTy} (v : View sig .tc sp s e) (V : Vec F s e) :
    iprop(own v c fullShare.left V ∗ own v c fullShare.right V) ⊢ own v c fullShare V := by
  unfold own
  iintro ⟨⟨%f, %hf, H1⟩, ⟨%g, %hg, H2⟩⟩
  icombine H1 H2 gives %h
  iexists f
  isplitr; · ipureintro; exact hf
  ihave H2 := (Entails.of_eq (pointsTo_congr (f := g) (g := f) fun i hi => ((h i (Finset.mem_inter.mpr ⟨hi, hi⟩)).1).symm)) $$ H2
  ihave H := half_join $$ [H1 H2]
  · isplitl [H1] <;> iassumption
  iexact H

theorem pay_q (h : Fin 8) : slotPay D 1 h c ⊢ own (qA h) c fullShare (Qv D h.val c) := by unfold slotPay; exact .rfl
theorem pay_o (h : Fin 8) : slotPay D 3 h c ⊢ own (oA h) c fullShare (Oin D h.val c) := by unfold slotPay; exact .rfl
theorem pay_m (h : Fin 8) : slotPay D 5 h c ⊢ own (mA h) c fullShare (Min D h.val c) := by unfold slotPay; exact .rfl
theorem back_q (h : Fin 8) : slotPay D 0 h c ⊢ own (qA h) c fullShare.left (Qv D h.val c) := by unfold slotPay; exact .rfl
theorem back_o (h : Fin 8) : slotPay D 2 h c ⊢ own (oA h) c fullShare (Ov D h.val c) := by unfold slotPay; exact .rfl
theorem back_m (h : Fin 8) : slotPay D 4 h c ⊢ own (mA h) c fullShare (Mv D h.val c) := by unfold slotPay; exact .rfl

/-! ## Middle hops -/

/-- What is owed between the three transfers of hop `h`. -/
theorem owed_split (h : Fin 7) : owedI c h = owedX c h + tallyAt (cell 5 h.succ (nxt c)) () Nm + tallyAt (cell 3 h.succ (nxt c)) () No + tallyAt (cell 1 h.succ (nxt c)) () Nq := by
  rw [owedI_eq]; unfold hopOwed; rw [← add_assoc, ← add_assoc]
theorem above_mid (h : Fin 7) : Above (h.val + 1) (owedX c h + tallyAt (cell 5 h.succ (nxt c)) () Nm + tallyAt (cell 3 h.succ (nxt c)) () No) := by
  refine ((above_owedX c h).add (Above.tally ?_)).add (Above.tally ?_) <;> (rw [lv_slot, if_pos (by decide), Fin.val_succ]; omega)
theorem lv_recv (h : Fin 8) : lv (cell 1 h c) () ≤ h.val + 1 ∧ lv (cell 3 h c) () ≤ h.val + 1 ∧ lv (cell 5 h c) () ≤ h.val + 1 := by
  refine ⟨?_, ?_, ?_⟩ <;> (rw [lv_slot, if_pos (by decide)])

/-- The part of a hop that every slot from 1 on shares, once its queries are in and the queries passed on: the local sums, the sums that arrive, and
    their addition. -/
theorem sum_step (h : Fin 8) (hh : 0 < h.val) {q : PosShare TreeShare} {O : CellTallies nD τ sig Unit} (hO : Above (h.val + 1) O) {K : PB F} :
    iprop(ctx D κ c ∗ own (qA h) c q (Qv D h.val c) ∗ KV c (D.k c) (D.v c) ∗ acc c ∗ owesE c O
        ∗ (cred (tallyAt (cell 3 h c) () No) ∗ atPos ER (cell 3 h c) 0 ∅ 0) ∗ (cred (tallyAt (cell 5 h c) () Nm) ∗ atPos ER (cell 5 h c) 0 ∅ 0))
      ⊢ iprop(((own (qA h) c q (Qv D h.val c) ∗ KV c (D.k c) (D.v c) ∗ acc c ∗ owesE c O ∗ atPos ER (cell 3 h c) 1 ∅ 0 ∗ atPos ER (cell 5 h c) 1 ∅ 0
            ∗ own (oA h) c fullShare (Ov D h.val c) ∗ own (mA h) c fullShare (Mv D h.val c)) -∗ run c K Q)
        -∗ run c (localQ h <| recvO h <| recvM h <| addLocal h K) Q) := by
  have ha : act 3 h = true ∧ act 5 h = true := ⟨decide_eq_true hh, decide_eq_true hh⟩
  iintro ⟨#Hc, Hq, HKV, Hacc, HO, ⟨Hc3, Ha3⟩, ⟨Hc5, Ha5⟩⟩ HK
  iapply (local_step h q (Qv D h.val c) (D.k c) (D.v c)) $$ [Hq HKV Hacc]
  · isplitl [Hq]; · iexact Hq
    isplitl [HKV] <;> iassumption
  unfold LocI
  iintro ⟨Hq, HKV, Hol, Hml⟩
  iapply (wait_step (f := 3) ha.1 (lv_recv h).2.1 hO (dst := oS h) (src := oS h) ((credit_tile (oS h)).trans (credit_tile (oS 0)).symm)) $$ [Hc3 Ha3 HO]
  · isplitr; · iexact Hc
    isplitl [Hc3]; · iexact Hc3
    isplitl [Ha3] <;> iassumption
  iintro ⟨Ha3, HO, Ho⟩
  ihave Ho := (pay_o h) $$ Ho
  iapply (wait_step (f := 5) ha.2 (lv_recv h).2.2 hO (dst := mS h) (src := mS h) ((credit_tile (mS h)).trans (credit_tile (mS 0)).symm)) $$ [Hc5 Ha5 HO]
  · isplitr; · iexact Hc
    isplitl [Hc5]; · iexact Hc5
    isplitl [Ha5] <;> iassumption
  iintro ⟨Ha5, HO, Hm⟩
  ihave Hm := (pay_m h) $$ Hm
  iapply (addLocal_step h _ _ (Oin D h.val c) (Min D h.val c)) $$ [Hol Hml Ho Hm]
  · isplitl [Hol Hml]; · isplitl [Hol] <;> iassumption
    isplitl [Ho]; · iexact Ho
    iexact Hm
  iintro ⟨Hacc, Ho, Hm⟩
  iapply HK
  isplitl [Hq]; · iexact Hq
  isplitl [HKV]; · iexact HKV
  isplitl [Hacc]; · iexact Hacc
  isplitl [HO]; · iexact HO
  isplitl [Ha3]; · iexact Ha3
  isplitl [Ha5]; · iexact Ha5
  isplitl [Ho]
  · rw [Ov_step h.val hh]; iexact Ho
  · rw [Mv_step h.val hh]; iexact Hm

/-- The two sums of hop `h` set off. -/
theorem sendSums_step (h : Fin 7) {K : PB F} :
    iprop(ctx D κ c ∗ own (oA h.castSucc) c fullShare (Ov D h.val c) ∗ own (mA h.castSucc) c fullShare (Mv D h.val c)
        ∗ (any (oA h.succ) (nxt c) ∗ any (mA h.succ) (nxt c)) ∗ sendPre c 2 3 h ∗ sendPre c 4 5 h
        ∗ owesE c (owedX c h + tallyAt (cell 5 h.succ (nxt c)) () Nm + tallyAt (cell 3 h.succ (nxt c)) () No))
      ⊢ iprop(((cred (tallyAt (cell 2 h.castSucc c) () No) ∗ cred (tallyAt (cell 4 h.castSucc c) () Nm) ∗ owesE c (owedX c h)) -∗ run c K Q)
        -∗ run c (sendO h (nxt c) <| sendM h (nxt c) K) Q) := by
  iintro ⟨#Hc, Ho, Hm, ⟨HoN, HmN⟩, Ht2, Ht4, HO⟩ HK
  iapply (sendO_step h) $$ [Ho HoN Ht2 HO]
  · isplitr; · iexact Hc
    isplitl [Ho]; · iexact Ho
    isplitl [HoN]; · iexact HoN
    isplitl [Ht2] <;> iassumption
  iintro ⟨Hc2, HO⟩
  iapply (sendM_step h) $$ [Hm HmN Ht4 HO]
  · isplitr; · iexact Hc
    isplitl [Hm]; · iexact Hm
    isplitl [HmN]; · iexact HmN
    isplitl [Ht4] <;> iassumption
  iintro ⟨Hc4, HO⟩
  iapply HK
  isplitl [Hc2]; · iexact Hc2
  isplitl [Hc4]; · iexact Hc4
  iexact HO

/-- Hop `h` for `1 ≤ h ≤ 6`. -/
theorem hop_step (h : Fin 7) (hh : 0 < h.val) {K : PB F} :
    iprop(ctx D κ c ∗ rcv c h.castSucc ∗ toks c h ∗ lend (nxt c) h ∗ KV c (D.k c) (D.v c) ∗ acc c ∗ owesE c (owedI c h))
      ⊢ iprop(((rcvd c h.castSucc ∗ sent D c h ∗ KV c (D.k c) (D.v c) ∗ acc c ∗ owesE c (owedX c h)) -∗ run c K Q)
        -∗ run c (hop h c K) Q) := by
  unfold hop rcv toks lend rcvd at3 sent
  rw [rightOf_eq, owed_split]
  have ha : act 1 h.castSucc = true := decide_eq_true hh
  iintro ⟨#Hc, ⟨⟨Hc1, Ha1⟩, H3, H5⟩, ⟨⟨Ht0, Ht1⟩, ⟨Ht2, Ht3⟩, ⟨Ht4, Ht5⟩⟩, ⟨⟨HqN, HoN, HmN⟩, #Hr1, #Hr3, #Hr5⟩, HKV, Hacc, HO⟩ HK
  iapply (wait_step (f := 1) ha (lv_recv h.castSucc).1 (owed_split (c := c) h ▸ above_owedI c h) (dst := qS h.castSucc) (src := qS h.castSucc)
    ((credit_tile (qS h.castSucc)).trans (credit_tile (qS 0)).symm)) $$ [Hc1 Ha1 HO]
  · isplitr; · iexact Hc
    isplitl [Hc1]; · iexact Hc1
    isplitl [Ha1] <;> iassumption
  iintro ⟨Ha1, HO, Hq⟩
  ihave Hq := (show slotPay D 1 h.castSucc c ⊢ own (qA h.castSucc) c fullShare (Qv D h.val c) from pay_q h.castSucc) $$ Hq
  ihave Hq' := (own_halves (qA h.castSucc) (Qv D h.val c)) $$ Hq
  icases Hq' with ⟨HqL, HqR⟩
  iapply (sendQ_step h) $$ [HqL HqN Ht0 Ht1 HO]
  · isplitr; · iexact Hc
    isplitl [HqL]; · iexact HqL
    isplitl [HqN]; · iexact HqN
    isplitl [Ht0 Ht1]
    · unfold sendPre
      isplitl [Ht0]; · iexact Ht0
      isplitl [Ht1]; · iexact Ht1
      iexact Hr1
    iexact HO
  iintro ⟨Hc0, HO⟩
  iapply (sum_step h.castSucc hh (above_mid h)) $$ [HqR HKV Hacc HO H3 H5]
  · isplitr; · iexact Hc
    isplitl [HqR]; · iexact HqR
    isplitl [HKV]; · iexact HKV
    isplitl [Hacc]; · iexact Hacc
    isplitl [HO]; · iexact HO
    isplitl [H3] <;> iassumption
  iintro ⟨HqR, HKV, Hacc, HO, Ha3, Ha5, Ho, Hm⟩
  iapply (sendSums_step h) $$ [Ho Hm HoN HmN Ht2 Ht3 Ht4 Ht5 HO]
  · isplitr; · iexact Hc
    isplitl [Ho]; · iexact Ho
    isplitl [Hm]; · iexact Hm
    isplitl [HoN HmN]; · isplitl [HoN] <;> iassumption
    unfold sendPre
    isplitl [Ht2 Ht3]
    · isplitl [Ht2]; · iexact Ht2
      isplitl [Ht3]; · iexact Ht3
      iexact Hr3
    isplitl [Ht4 Ht5]
    · isplitl [Ht4]; · iexact Ht4
      isplitl [Ht5]; · iexact Ht5
      iexact Hr5
    iexact HO
  iintro ⟨Hc2, Hc4, HO⟩
  iapply HK
  isplitl [Ha1 Ha3 Ha5]
  · isplitl [Ha1]; · iexact Ha1
    isplitl [Ha3] <;> iassumption
  isplitl [Hc0 Hc2 Hc4 HqR]
  · isplitl [Hc0]; · iexact Hc0
    isplitl [Hc2]; · iexact Hc2
    isplitl [Hc4]; · iexact Hc4
    iexact HqR
  isplitl [HKV]; · iexact HKV
  isplitl [Hacc]; · iexact Hacc
  iexact HO

/-! ## The first hop -/

theorem hop0_step {K : PB F} :
    iprop(ctx D κ c ∗ own (qA 0) c fullShare (Qv D 0 c) ∗ any (oA 0) c ∗ any (mA 0) c ∗ toks c 0 ∗ lend (nxt c) 0 ∗ KV c (D.k c) (D.v c) ∗ acc c ∗ owesE c (owedI c 0))
      ⊢ iprop(((sent D c 0 ∗ KV c (D.k c) (D.v c) ∗ acc c ∗ owesE c (owedX c 0)) -∗ run c K Q)
        -∗ run c (hop0 c K) Q) := by
  unfold hop0 toks lend sent
  rw [rightOf_eq, owed_split]
  iintro ⟨#Hc, Hq, Ho, Hm, ⟨⟨Ht0, Ht1⟩, ⟨Ht2, Ht3⟩, ⟨Ht4, Ht5⟩⟩, ⟨⟨HqN, HoN, HmN⟩, #Hr1, #Hr3, #Hr5⟩, HKV, Hacc, HO⟩ HK
  ihave Hq' := (own_halves (qA 0) (Qv D 0 c)) $$ Hq
  icases Hq' with ⟨HqL, HqR⟩
  iapply (sendQ_step 0) $$ [HqL HqN Ht0 Ht1 HO]
  · isplitr; · iexact Hc
    isplitl [HqL]; · iexact HqL
    isplitl [HqN]; · iexact HqN
    isplitl [Ht0 Ht1]
    · unfold sendPre
      isplitl [Ht0]; · iexact Ht0
      isplitl [Ht1]; · iexact Ht1
      iexact Hr1
    iexact HO
  iintro ⟨Hc0, HO⟩
  iapply (local_step 0 fullShare.right (Qv D 0 c) (D.k c) (D.v c)) $$ [HqR HKV Hacc]
  · isplitl [HqR]; · iexact HqR
    isplitl [HKV] <;> iassumption
  unfold LocI
  iintro ⟨HqR, HKV, Hol, Hml⟩
  iapply (putLocal_step _ _) $$ [Hol Hml Ho Hm]
  · isplitl [Hol Hml]; · isplitl [Hol] <;> iassumption
    isplitl [Ho] <;> iassumption
  iintro ⟨Hacc, Ho, Hm⟩
  iapply (sendSums_step 0) $$ [Ho Hm HoN HmN Ht2 Ht3 Ht4 Ht5 HO]
  · isplitr; · iexact Hc
    isplitl [Ho]; · iexact Ho
    isplitl [Hm]; · iexact Hm
    isplitl [HoN HmN]; · isplitl [HoN] <;> iassumption
    unfold sendPre
    isplitl [Ht2 Ht3]
    · isplitl [Ht2]; · iexact Ht2
      isplitl [Ht3]; · iexact Ht3
      iexact Hr3
    isplitl [Ht4 Ht5]
    · isplitl [Ht4]; · iexact Ht4
      isplitl [Ht5]; · iexact Ht5
      iexact Hr5
    iexact HO
  iintro ⟨Hc2, Hc4, HO⟩
  iapply HK
  isplitl [Hc0 Hc2 Hc4 HqR]
  · isplitl [Hc0]; · iexact Hc0
    isplitl [Hc2]; · iexact Hc2
    isplitl [Hc4]; · iexact Hc4
    iexact HqR
  isplitl [HKV]; · iexact HKV
  isplitl [Hacc]; · iexact Hacc
  iexact HO

/-! ## The last hop and the division -/

theorem hop7_step {K : PB F} :
    iprop(ctx D κ c ∗ rcv c 7 ∗ KV c (D.k c) (D.v c) ∗ acc c ∗ owesE c (finOwed c))
      ⊢ iprop(((rcvd c 7 ∗ slotEnd D c 7 ∗ KV c (D.k c) (D.v c) ∗ acc c ∗ owesE c (finOwed c)) -∗ run c K Q)
        -∗ run c (hop7 K) Q) := by
  unfold hop7 rcv rcvd at3 slotEnd
  iintro ⟨#Hc, ⟨⟨Hc1, Ha1⟩, H3, H5⟩, HKV, Hacc, HO⟩ HK
  iapply (wait_step (f := 1) (h := 7) rfl (lv_recv 7).1 (above_fin c _ (by decide)) (dst := qS 7) (src := qS 7)
    ((credit_tile (qS 7)).trans (credit_tile (qS 0)).symm)) $$ [Hc1 Ha1 HO]
  · isplitr; · iexact Hc
    isplitl [Hc1]; · iexact Hc1
    isplitl [Ha1] <;> iassumption
  iintro ⟨Ha1, HO, Hq⟩
  ihave Hq := (pay_q 7) $$ Hq
  iapply (sum_step 7 (by decide) (above_fin c _ (by decide))) $$ [Hq HKV Hacc HO H3 H5]
  · isplitr; · iexact Hc
    isplitl [Hq]; · iexact Hq
    isplitl [HKV]; · iexact HKV
    isplitl [Hacc]; · iexact Hacc
    isplitl [HO]; · iexact HO
    isplitl [H3] <;> iassumption
  iintro ⟨Hq, HKV, Hacc, HO, Ha3, Ha5, Ho, Hm⟩
  iapply HK
  isplitl [Ha1 Ha3 Ha5]
  · isplitl [Ha1]; · iexact Ha1
    isplitl [Ha3] <;> iassumption
  isplitl [Hq Ho Hm]
  · isplitl [Hq]; · iexact Hq
    isplitl [Ho] <;> iassumption
  isplitl [HKV]; · iexact HKV
  isplitl [Hacc] <;> iassumption

/-- Access over the whole of a whole buffer is the buffer. -/
theorem own_whole (b : Ref sig .tc) {off : Fin b.ty.shape.rank → Nat} (h : off = fun _ => 0) (inb : ∀ a, off a + b.ty.shape.size a ≤ b.ty.shape.size a)
    (q : PosShare TreeShare) (V : Vec F b.ty.shape b.ty.elt) :
    own ((Memref.whole b).access (Rect.unit off b.ty.shape.size inb)) c q V = own (Memref.whole b).view c q V := by
  subst h
  have e1 : ((Memref.whole b).access (Rect.unit (fun _ => 0) b.ty.shape.size inb)).set = Finset.univ := Memref.set_access_whole b
  have e2 : (Memref.whole b).view.set = Finset.univ := View.set_whole b
  have e3 : ∀ f, ((Memref.whole b).access (Rect.unit (fun _ => 0) b.ty.shape.size inb)).read (Elt F) f = f := Memref.read_access_whole (Elt F) b
  unfold own
  rw [e1, e2]
  simp only [e3]
  rfl
theorem any_whole (b : Ref sig .tc) {off : Fin b.ty.shape.rank → Nat} (h : off = fun _ => 0) (inb : ∀ a, off a + b.ty.shape.size a ≤ b.ty.shape.size a) :
    (any ((Memref.whole b).access (Rect.unit off b.ty.shape.size inb)) c : sProp (𝕄R F)) = any (Memref.whole b).view c := by
  subst h
  have e1 : ((Memref.whole b).access (Rect.unit (fun _ => 0) b.ty.shape.size inb)).set = Finset.univ := Memref.set_access_whole b
  have e2 : (Memref.whole b).view.set = Finset.univ := View.set_whole b
  unfold any
  rw [e1, e2]

/-- The offsets of an access to a whole rank-3 buffer. -/
theorem off0 : (![0, 0, 0] : Fin 3 → Nat) = fun _ => 0 := by funext a; fin_cases a <;> rfl
theorem fin_view (V : Vec F S8x256x128 .bf16) :
    own ((finM : Memref sig .tc .vmem S8x256x128 .bf16).access rAll) c fullShare V ⊢ own (finM : Memref sig .tc .vmem S8x256x128 .bf16).view c fullShare V :=
  Entails.of_eq (own_whole cc0_scratch5 off0 _ _ _)

theorem finish_step {K : PB F} :
    iprop(ctx D κ c ∗ slotEnd D c 7 ∗ any (finM.access rAll) c ∗ any (outM : Memref sig .tc .vmem S8x256x128 .bf16).view (nxt c)
        ∗ (dutyTok ER (fsCell c) 0 true ∗ dutyTok ER (frCell (nxt c)) 0 true ∗ reached ER (frCell (nxt c)) 0)
        ∗ atPos ER (fsCell c) 0 ∅ 0 ∗ (cred (tallyAt (frCell c) () Nf) ∗ atPos ER (frCell c) 0 ∅ 0) ∗ owesE c (finOwed c))
      ⊢ iprop(((slotEnd D c 7 ∗ own (finM : Memref sig .tc .vmem S8x256x128 .bf16).view c fullShare (Fin_ D c)
            ∗ own (outM : Memref sig .tc .vmem S8x256x128 .bf16).view c fullShare (Res D c)
            ∗ atPos ER (fsCell c) 1 ∅ 0 ∗ atPos ER (frCell c) 1 ∅ 0 ∗ owesE c 0) -∗ run c K Q)
        -∗ run c (finish c K) Q) := by
  unfold finish slotEnd
  rw [rightOf_eq]
  iintro ⟨#Hc, ⟨Hq, Ho, Hm⟩, Hf, Hout, Ht, Hafs, ⟨Hcfr, Hafr⟩, HO⟩ HK
  iapply ldM_step $$ Hm; iintro Hm
  iapply ldB_step $$ Ho; iintro Ho
  iapply ldA_any $$ Hf; iintro Hf
  iapply stFin_step $$ Hf; iintro Hf
  ihave Hf := (fin_view _) $$ Hf
  iapply sendFin_step $$ [Hf Hout Ht HO]
  · isplitr; · iexact Hc
    isplitl [Hf]; · iexact Hf
    isplitl [Hout]; · iexact Hout
    isplitl [Ht] <;> iassumption
  iintro ⟨Hcfs, HO⟩
  iapply doneFin_step $$ [Hcfs Hafs HO]
  · isplitr; · iexact Hc
    isplitl [Hcfs]; · iexact Hcfs
    isplitl [Hafs] <;> iassumption
  iintro ⟨Hafs, HO, Hf⟩
  iapply recvFin_step $$ [Hcfr Hafr HO]
  · isplitr; · iexact Hc
    isplitl [Hcfr]; · iexact Hcfr
    isplitl [Hafr] <;> iassumption
  iintro ⟨Hafr, HO, Hout⟩
  iapply HK
  isplitl [Hq Ho Hm]
  · isplitl [Hq]; · iexact Hq
    isplitl [Ho] <;> iassumption
  isplitl [Hf]; · iexact Hf
  isplitl [Hout]; · iexact Hout
  isplitl [Hafs]; · iexact Hafs
  isplitl [Hafr] <;> iassumption

/-! ## The sources given back -/

theorem lv_send (h : Fin 8) : lv (cell 0 h c) () ≤ 0 ∧ lv (cell 2 h c) () ≤ 0 ∧ lv (cell 4 h c) () ≤ 0 := by
  refine ⟨?_, ?_, ?_⟩ <;> (rw [lv_slot, if_neg (by decide)])

theorem drain_step (h : Fin 7) {K : PB F} :
    iprop(ctx D κ c ∗ sent D c h ∗ at3 c 0 2 4 h.castSucc 0 ∗ owesE c 0)
      ⊢ iprop(((slotEnd D c h.castSucc ∗ at3 c 0 2 4 h.castSucc 1 ∗ owesE c 0) -∗ run c K Q) -∗ run c (drain h K) Q) := by
  unfold drain sent at3 slotEnd
  iintro ⟨#Hc, ⟨Hc0, Hc2, Hc4, HqR⟩, ⟨Ha0, Ha2, Ha4⟩, HO⟩ HK
  iapply (wait_step (f := 0) (act_send h).1 (lv_send h.castSucc).1 (Above.zero _) (dst := qS h.castSucc) (src := qS h.succ)
    ((credit_tile (qS h.castSucc)).trans (credit_tile (qS 0)).symm)) $$ [Hc0 Ha0 HO]
  · isplitr; · iexact Hc
    isplitl [Hc0]; · iexact Hc0
    isplitl [Ha0] <;> iassumption
  iintro ⟨Ha0, HO, Hq⟩
  ihave Hq := (back_q h.castSucc) $$ Hq
  iapply (wait_step (f := 2) (act_send h).2.1 (lv_send h.castSucc).2.1 (Above.zero _) (dst := oS h.castSucc) (src := oS h.succ)
    ((credit_tile (oS h.castSucc)).trans (credit_tile (oS 0)).symm)) $$ [Hc2 Ha2 HO]
  · isplitr; · iexact Hc
    isplitl [Hc2]; · iexact Hc2
    isplitl [Ha2] <;> iassumption
  iintro ⟨Ha2, HO, Ho⟩
  ihave Ho := (back_o h.castSucc) $$ Ho
  iapply (wait_step (f := 4) (act_send h).2.2 (lv_send h.castSucc).2.2 (Above.zero _) (dst := mS h.castSucc) (src := mS h.succ)
    ((credit_tile (mS h.castSucc)).trans (credit_tile (mS 0)).symm)) $$ [Hc4 Ha4 HO]
  · isplitr; · iexact Hc
    isplitl [Hc4]; · iexact Hc4
    isplitl [Ha4] <;> iassumption
  iintro ⟨Ha4, HO, Hm⟩
  ihave Hm := (back_m h.castSucc) $$ Hm
  iapply HK
  isplitl [Hq HqR Ho Hm]
  · isplitl [Hq HqR]
    · iapply (own_join (qA h.castSucc) (Qv D h.val c))
      isplitl [Hq]
      · iexact Hq
      · iexact HqR
    isplitl [Ho]
    · iexact Ho
    · iexact Hm
  isplitl [Ha0 Ha2 Ha4]
  · isplitl [Ha0]; · iexact Ha0
    isplitl [Ha2] <;> iassumption
  iexact HO

/-! ## The entry -/

/-- The two signals and the wait, and the device's own queries put in slot 0. -/
theorem enter_step {K : Dev nD → PB F} :
    iprop(ctx D κ c ∗ barPay c ∗ dutyTok ER (barCell (prv c)) 0 true ∗ dutyTok ER (barCell (nxt c)) 0 false
        ∗ (cred (tallyAt (barCell c) () 2) ∗ atPos ER (barCell c) 0 ∅ 0)
        ∗ ((qI : Memref sig .tc .vmem S8x256x128 .bf16).view.loc (c : Thread nD τ) ↦{fullShare} (D.q c : Buf (Elt F) ((qI : Memref sig .tc .vmem S8x256x128 .bf16).view.loc (c : Thread nD τ))))
        ∗ any (qA 0) c ∗ owesE c (owed₀ c))
      ⊢ iprop(((barPay (nxt c) ∗ atPos ER (barCell c) 1 ∅ 0
            ∗ ((qI : Memref sig .tc .vmem S8x256x128 .bf16).view.loc (c : Thread nD τ) ↦{fullShare} (D.q c : Buf (Elt F) ((qI : Memref sig .tc .vmem S8x256x128 .bf16).view.loc (c : Thread nD τ))))
            ∗ own (qA 0) c fullShare (Qv D 0 c) ∗ owesE c (owedI c 0)) -∗ run c (K c) Q)
        -∗ run c (enter K) Q) := by
  unfold enter owesE
  simp only [semSignalWord, semWaitWord, Prog.lift, Prog.bind_op, Prog.bind_ret, Prog.pure_eq_ret, Prog.bind_assoc, wp_deviceId, leftOf_eq, right2_eq]
  iintro ⟨#Hc, Hp, Ht, Ht', ⟨Hcr, Hat⟩, Hq, Hq0, ⟨%W, HO⟩⟩ HK
  unfold owed₀
  iapply (Rounds.wp_signal 𝒱₀ ER (sched D) (c : Thread nD τ) none (dst := (prv c : Thread nD τ)) (κ := κ (barCell (prv c)))
      (d := true) (by rw [duties_bar]; exact Finset.mem_univ _) ((amount_bar D (prv c) true).trans (by decide)) () (owedI c 0 + tallyAt (barCell (nxt c)) () 1) rfl)
    $$ [HO Ht Hp]
  · isplitr; · iapply (ctx_bar D κ c (prv c)); iexact Hc
    isplitl [HO]; · iexact HO
    isplitl [Ht]; · iexact Ht
    isplitl [Hp]
    · rw [payload_bar_true, nxt_prv]; iexact Hp
    · iapply (ctx_reachedBar D κ c (prv c)); iexact Hc
  iintro HO
  iapply (Rounds.wp_signal 𝒱₀ ER (sched D) (c : Thread nD τ) none (dst := (nxt c : Thread nD τ)) (κ := κ (barCell (nxt c)))
      (d := false) (by rw [duties_bar]; exact Finset.mem_univ _) ((amount_bar D (nxt c) false).trans (by decide)) () (owedI c 0) rfl)
    $$ [HO Ht']
  · isplitr; · iapply (ctx_bar D κ c (nxt c)); iexact Hc
    isplitl [HO]; · iexact HO
    isplitl [Ht']; · iexact Ht'
    isplitr
    · rw [payload_bar_false]; iempintro
    · iapply (ctx_reachedBar D κ c (nxt c)); iexact Hc
  iintro HO
  iapply (Rounds.wp_wait_rest_token 𝒱₀ ER (sched D) (c : Thread nD τ) none (κ := κ (barCell c))
      (wpE_semWait_eq 𝒱₀ (c : Thread nD τ) none Set.univ) (Set.mem_univ _) () (O := owedI c 0) (W := W) (R := 0) (m := 0) (T := ∅)
      (by rw [expect_bar]; decide)) $$ [Hcr HO Hat]
  · isplitr; · iapply (ctx_bar D κ c c); iexact Hc
    isplitl [Hcr]; · iexact Hcr
    isplitl [HO]; · iexact HO
    isplitr
    · iapply (mayWait c (.reg barrier0) _ (le_of_eq (lv_bar c)) (above_owedI c 0)); iapply (ctx_lev D κ c); iexact Hc
    iexact Hat
  iintro ⟨HO, Hat, -, Hpay⟩
  ihave Hp2 := (Entails.of_eq (rest_bar D c)) $$ Hpay
  icases Hp2 with ⟨-, Hp⟩
  unfold ldA
  iapply (load_of_whole (m := qI) (r := rAll)) $$ Hq; iintro Hq
  rw [show (qI.access rAll).read (Elt F) (D.q c) = D.q c from Memref.read_access_unit_zero (Elt F) cc0_stg0_0 (by funext a; fin_cases a <;> rfl) _ (D.q c)]
  iapply ldB_any $$ Hq0; iintro Hq0
  iapply stQ_step $$ Hq0; iintro Hq0
  iapply HK
  isplitl [Hp]; · iexact Hp
  isplitl [Hat]; · iexact Hat
  isplitl [Hq]; · iexact Hq
  isplitl [Hq0]; · iexact Hq0
  iexists _; iexact HO

end Cert.Proof.Ring

end
-- ==== Proof.Body.lean ====
/-
The whole body on device `c`: the entry, the eight hops, the division and the block sent home, the sources given back.
-/
module

public import proofs.«01_k».proof.Proof.Hop
import all proofs.«01_k».proof.Proof.Hops
import all proofs.«01_k».proof.Proof.Values
import all proofs.«01_k».proof.Proof.Protocol
import all proofs.«01_k».proof.Proof.Steps
import all proofs.«01_k».proof.Proof.Local
import all proofs.«01_k».proof.Proof.Hop

@[expose] public section

noncomputable section

namespace Cert.Proof.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A family over seven, written out. -/
theorem seven (Φ : Fin 7 → sProp (𝕄R F)) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  rfl
/-- A family over eight: the first seven and the last. -/
theorem eight (Φ : Fin 8 → sProp (𝕄R F)) : bigSep Finset.univ Φ
    = iprop(Φ (0 : Fin 7).castSucc ∗ Φ (1 : Fin 7).castSucc ∗ Φ (2 : Fin 7).castSucc ∗ Φ (3 : Fin 7).castSucc ∗ Φ (4 : Fin 7).castSucc ∗ Φ (5 : Fin 7).castSucc
      ∗ Φ (6 : Fin 7).castSucc ∗ Φ 7) := by
  rw [bigSep_univ_eq_bigSepL [0, 1, 2, 3, 4, 5, 6, 7] (by decide) (by decide)]
  rfl

section States

variable (D : Data F) (c : Dev nD)

/-- What stays with the device through the hops. -/
def stay (O : CellTallies nD τ sig Unit) : sProp (𝕄R F) := iprop(KV c (D.k c) (D.v c) ∗ acc c ∗ owesE c O)
/-- The device's own queries in their staging buffer. -/
def qPts : sProp (𝕄R F) :=
  iprop((qI : Memref sig .tc .vmem S8x256x128 .bf16).view.loc (c : Thread nD τ) ↦{fullShare} (D.q c : Buf (Elt F) ((qI : Memref sig .tc .vmem S8x256x128 .bf16).view.loc (c : Thread nD τ))))

/-- The cells and tokens the device starts from. -/
def ghostPre : sProp (𝕄R F) :=
  iprop((dutyTok ER (barCell (prv c)) 0 true ∗ dutyTok ER (barCell (nxt c)) 0 false ∗ (cred (tallyAt (barCell c) () 2) ∗ atPos ER (barCell c) 0 ∅ 0))
    ∗ (bigSep Finset.univ fun h : Fin 7 => toks c h)
    ∗ (bigSep Finset.univ fun h : Fin 7 => rcv c h.succ)
    ∗ (bigSep Finset.univ fun h : Fin 7 => at3 c 0 2 4 h.castSucc 0)
    ∗ (dutyTok ER (fsCell c) 0 true ∗ dutyTok ER (frCell (nxt c)) 0 true)
    ∗ atPos ER (fsCell c) 0 ∅ 0 ∗ (cred (tallyAt (frCell c) () Nf) ∗ atPos ER (frCell c) 0 ∅ 0))
/-- The cells at the end: every one used is past its one round. -/
def ghostPost : sProp (𝕄R F) :=
  iprop(atPos ER (barCell c) 1 ∅ 0
    ∗ (bigSep Finset.univ fun h : Fin 7 => rcvd c h.succ)
    ∗ (bigSep Finset.univ fun h : Fin 7 => at3 c 0 2 4 h.castSucc 1)
    ∗ atPos ER (fsCell c) 1 ∅ 0 ∗ atPos ER (frCell c) 1 ∅ 0)

end States

variable {D : Data F} {c : Dev nD} {κ : GSem nD τ sig → ℕ} {Q : PUnit → sProp (𝕄R F)}

/-- The hop after hop `j`. -/
theorem hop_mid (j h : Fin 7) (hj : j.val + 1 = h.val) {K : PB F} :
    iprop(ctx D κ c ∗ rcv c j.succ ∗ toks c h ∗ lend (nxt c) h ∗ stay D c (owedX c j))
      ⊢ iprop(((rcvd c j.succ ∗ sent D c h ∗ stay D c (owedX c h)) -∗ run c K Q) -∗ run c (hop h c K) Q) := by
  have e : j.succ = h.castSucc := Fin.ext hj
  have eo : owedX c j = owedI c h := by
    have := owedX_eq c ⟨j.val, by have := h.isLt; omega⟩
    rwa [show (⟨j.val, by have := h.isLt; omega⟩ : Fin 6).castSucc = j from rfl, show (⟨j.val, by have := h.isLt; omega⟩ : Fin 6).succ = h from Fin.ext hj] at this
  rw [e, eo]
  unfold stay
  iintro ⟨#Hc, Hr, Ht, Hl, HKV, Hacc, HO⟩ HK
  iapply (hop_step h (by omega)) $$ [Hr Ht Hl HKV Hacc HO]
  · isplitr; · iexact Hc
    isplitl [Hr]; · iexact Hr
    isplitl [Ht]; · iexact Ht
    isplitl [Hl]; · iexact Hl
    isplitl [HKV]; · iexact HKV
    isplitl [Hacc] <;> iassumption
  iintro ⟨Hr, Hs, HKV, Hacc, HO⟩
  iapply HK
  isplitl [Hr]; · iexact Hr
  isplitl [Hs]; · iexact Hs
  isplitl [HKV]; · iexact HKV
  isplitl [Hacc] <;> iassumption

theorem hop_first {K : PB F} :
    iprop(ctx D κ c ∗ own (qA 0) c fullShare (Qv D 0 c) ∗ any (oA 0) c ∗ any (mA 0) c ∗ toks c 0 ∗ lend (nxt c) 0 ∗ stay D c (owedI c 0))
      ⊢ iprop(((sent D c 0 ∗ stay D c (owedX c 0)) -∗ run c K Q) -∗ run c (hop0 c K) Q) := by
  unfold stay
  exact hop0_step
theorem hop_last {K : PB F} :
    iprop(ctx D κ c ∗ rcv c (6 : Fin 7).succ ∗ stay D c (owedX c 6))
      ⊢ iprop(((rcvd c (6 : Fin 7).succ ∗ slotEnd D c 7 ∗ stay D c (finOwed c)) -∗ run c K Q) -∗ run c (hop7 K) Q) := by
  rw [owedX_last]
  unfold stay
  exact hop7_step

/-- The body on device `c`. -/
theorem body_run :
    iprop(ctx D κ c ∗ ghostPre c ∗ barPay c ∗ (any (qA 0) c ∗ any (oA 0) c ∗ any (mA 0) c) ∗ any (finM.access rAll) c ∗ qPts D c ∗ stay D c (owed₀ c))
      ⊢ iprop(((ghostPost c ∗ (bigSep Finset.univ fun h : Fin 8 => slotEnd D c h) ∗ own (finM : Memref sig .tc .vmem S8x256x128 .bf16).view c fullShare (Fin_ D c)
            ∗ own (outM : Memref sig .tc .vmem S8x256x128 .bf16).view c fullShare (Res D c) ∗ qPts D c ∗ stay D c 0) -∗ Q ⟨⟩)
        -∗ run c ringBody Q) := by
  unfold ghostPre ghostPost
  rw [seven, seven, seven, seven, seven, eight]
  iintro ⟨#Hc, ⟨⟨Htb, Htb', Hb⟩, ⟨Ht0, Ht1, Ht2, Ht3, Ht4, Ht5, Ht6⟩, ⟨Hr1, Hr2, Hr3, Hr4, Hr5, Hr6, Hr7⟩, ⟨Hs0, Hs1, Hs2, Hs3, Hs4, Hs5, Hs6⟩, ⟨Htfs, Htfr⟩, Hafs, Hfr⟩,
    Hbp, ⟨Hq0, Ho0, Hm0⟩, Hfin, HqI, Hst⟩ HK
  unfold stay
  icases Hst with ⟨HKV, Hacc, HO⟩
  unfold ringBody
  iapply enter_step $$ [Htb Htb' Hb Hbp HqI Hq0 HO]
  · isplitr; · iexact Hc
    isplitl [Hbp]; · iexact Hbp
    isplitl [Htb]; · iexact Htb
    isplitl [Htb']; · iexact Htb'
    isplitl [Hb]; · iexact Hb
    isplitl [HqI]; · unfold qPts; iexact HqI
    isplitl [Hq0] <;> iassumption
  iintro ⟨Hbp, Hab, HqI, Hq0, HO⟩
  unfold barPay
  icases Hbp with ⟨Hl, Hout, #Hrfr⟩
  ihave Hl := (Entails.of_eq (seven fun h => lend (nxt c) h)) $$ Hl
  icases Hl with ⟨Hl0, Hl1, Hl2, Hl3, Hl4, Hl5, Hl6⟩
  ihave Hst : stay D c (owedI c 0) $$ [HKV Hacc HO]
  · unfold stay
    isplitl [HKV]; · iexact HKV
    isplitl [Hacc] <;> iassumption
  iapply hop_first $$ [Hq0 Ho0 Hm0 Ht0 Hl0 Hst]
  · isplitr; · iexact Hc
    isplitl [Hq0]; · iexact Hq0
    isplitl [Ho0]; · iexact Ho0
    isplitl [Hm0]; · iexact Hm0
    isplitl [Ht0]; · iexact Ht0
    isplitl [Hl0] <;> iassumption
  iintro ⟨Hx0, Hst⟩
  iapply (hop_mid 0 1 rfl) $$ [Hr1 Ht1 Hl1 Hst]
  · isplitr; · iexact Hc
    isplitl [Hr1]; · iexact Hr1
    isplitl [Ht1]; · iexact Ht1
    isplitl [Hl1] <;> iassumption
  iintro ⟨Hr1, Hx1, Hst⟩
  iapply (hop_mid 1 2 rfl) $$ [Hr2 Ht2 Hl2 Hst]
  · isplitr; · iexact Hc
    isplitl [Hr2]; · iexact Hr2
    isplitl [Ht2]; · iexact Ht2
    isplitl [Hl2] <;> iassumption
  iintro ⟨Hr2, Hx2, Hst⟩
  iapply (hop_mid 2 3 rfl) $$ [Hr3 Ht3 Hl3 Hst]
  · isplitr; · iexact Hc
    isplitl [Hr3]; · iexact Hr3
    isplitl [Ht3]; · iexact Ht3
    isplitl [Hl3] <;> iassumption
  iintro ⟨Hr3, Hx3, Hst⟩
  iapply (hop_mid 3 4 rfl) $$ [Hr4 Ht4 Hl4 Hst]
  · isplitr; · iexact Hc
    isplitl [Hr4]; · iexact Hr4
    isplitl [Ht4]; · iexact Ht4
    isplitl [Hl4] <;> iassumption
  iintro ⟨Hr4, Hx4, Hst⟩
  iapply (hop_mid 4 5 rfl) $$ [Hr5 Ht5 Hl5 Hst]
  · isplitr; · iexact Hc
    isplitl [Hr5]; · iexact Hr5
    isplitl [Ht5]; · iexact Ht5
    isplitl [Hl5] <;> iassumption
  iintro ⟨Hr5, Hx5, Hst⟩
  iapply (hop_mid 5 6 rfl) $$ [Hr6 Ht6 Hl6 Hst]
  · isplitr; · iexact Hc
    isplitl [Hr6]; · iexact Hr6
    isplitl [Ht6]; · iexact Ht6
    isplitl [Hl6] <;> iassumption
  iintro ⟨Hr6, Hx6, Hst⟩
  iapply hop_last $$ [Hr7 Hst]
  · isplitr; · iexact Hc
    isplitl [Hr7] <;> iassumption
  iintro ⟨Hr7, Hs7, Hst⟩
  unfold stay
  icases Hst with ⟨HKV, Hacc, HO⟩
  iapply finish_step $$ [Hs7 Hfin Hout Htfs Htfr Hafs Hfr HO]
  · isplitr; · iexact Hc
    isplitl [Hs7]; · iexact Hs7
    isplitl [Hfin]; · iexact Hfin
    isplitl [Hout]; · iexact Hout
    isplitl [Htfs Htfr]
    · isplitl [Htfs]; · iexact Htfs
      isplitl [Htfr]; · iexact Htfr
      iexact Hrfr
    isplitl [Hafs]; · iexact Hafs
    isplitl [Hfr] <;> iassumption
  iintro ⟨Hs7, Hfin, Hout, Hafs, Hafr, HO⟩
  iapply (drain_step 0) $$ [Hx0 Hs0 HO]
  · isplitr; · iexact Hc
    isplitl [Hx0]; · iexact Hx0
    isplitl [Hs0] <;> iassumption
  iintro ⟨He0, Hs0, HO⟩
  iapply (drain_step 1) $$ [Hx1 Hs1 HO]
  · isplitr; · iexact Hc
    isplitl [Hx1]; · iexact Hx1
    isplitl [Hs1] <;> iassumption
  iintro ⟨He1, Hs1, HO⟩
  iapply (drain_step 2) $$ [Hx2 Hs2 HO]
  · isplitr; · iexact Hc
    isplitl [Hx2]; · iexact Hx2
    isplitl [Hs2] <;> iassumption
  iintro ⟨He2, Hs2, HO⟩
  iapply (drain_step 3) $$ [Hx3 Hs3 HO]
  · isplitr; · iexact Hc
    isplitl [Hx3]; · iexact Hx3
    isplitl [Hs3] <;> iassumption
  iintro ⟨He3, Hs3, HO⟩
  iapply (drain_step 4) $$ [Hx4 Hs4 HO]
  · isplitr; · iexact Hc
    isplitl [Hx4]; · iexact Hx4
    isplitl [Hs4] <;> iassumption
  iintro ⟨He4, Hs4, HO⟩
  iapply (drain_step 5) $$ [Hx5 Hs5 HO]
  · isplitr; · iexact Hc
    isplitl [Hx5]; · iexact Hx5
    isplitl [Hs5] <;> iassumption
  iintro ⟨He5, Hs5, HO⟩
  iapply (drain_step 6) $$ [Hx6 Hs6 HO]
  · isplitr; · iexact Hc
    isplitl [Hx6]; · iexact Hx6
    isplitl [Hs6] <;> iassumption
  iintro ⟨He6, Hs6, HO⟩
  iapply run_ret
  iapply HK
  isplitl [Hab Hr1 Hr2 Hr3 Hr4 Hr5 Hr6 Hr7 Hs0 Hs1 Hs2 Hs3 Hs4 Hs5 Hs6 Hafs Hafr]
  · isplitl [Hab]; · iexact Hab
    isplitl [Hr1 Hr2 Hr3 Hr4 Hr5 Hr6 Hr7]
    · isplitl [Hr1]; · iexact Hr1
      isplitl [Hr2]; · iexact Hr2
      isplitl [Hr3]; · iexact Hr3
      isplitl [Hr4]; · iexact Hr4
      isplitl [Hr5]; · iexact Hr5
      isplitl [Hr6] <;> iassumption
    isplitl [Hs0 Hs1 Hs2 Hs3 Hs4 Hs5 Hs6]
    · isplitl [Hs0]; · iexact Hs0
      isplitl [Hs1]; · iexact Hs1
      isplitl [Hs2]; · iexact Hs2
      isplitl [Hs3]; · iexact Hs3
      isplitl [Hs4]; · iexact Hs4
      isplitl [Hs5] <;> iassumption
    isplitl [Hafs] <;> iassumption
  isplitl [He0 He1 He2 He3 He4 He5 He6 Hs7]
  · isplitl [He0]; · iexact He0
    isplitl [He1]; · iexact He1
    isplitl [He2]; · iexact He2
    isplitl [He3]; · iexact He3
    isplitl [He4]; · iexact He4
    isplitl [He5]; · iexact He5
    isplitl [He6] <;> iassumption
  isplitl [Hfin]; · iexact Hfin
  isplitl [Hout]; · iexact Hout
  isplitl [HqI]; · unfold qPts; iexact HqI
  isplitl [HKV]; · iexact HKV
  isplitl [Hacc] <;> iassumption

end Cert.Proof.Ring

end
-- ==== Proof.Slots.lean ====
/-
The ring buffers held whole and held slot by slot.

The region lends every scratch buffer whole. The kernel holds the three ring buffers one slot at a time: slots 1 to 7 go to the
left neighbour at the entry, and all eight are back at the end.
-/
module

public import proofs.«01_k».proof.Proof.Body
public import Idealize.ShloMosaic.Lib.Ring
import all proofs.«01_k».proof.Proof.Hops
import all proofs.«01_k».proof.Proof.Values
import all proofs.«01_k».proof.Proof.Protocol
import all proofs.«01_k».proof.Proof.Steps
import all proofs.«01_k».proof.Proof.Local
import all proofs.«01_k».proof.Proof.Hop
import all proofs.«01_k».proof.Proof.Body

@[expose] public section

noncomputable section

namespace Cert.Proof.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Split

variable (c : Dev nD)

/-- Buffer `b` of device `c`, whole, holding anything. -/
def anyBuf (b : Ref sig .tc) : sProp (𝕄R F) := iprop(∃ f : Buf (Elt F) ((c : Thread nD τ).loc b), ((c : Thread nD τ).loc b) ↦{fullShare} f)

variable (b : Ref sig .tc) (r : Fin 8 → Rect b.ty.shape)
  (hd : ∀ h h', h ≠ h' → Disjoint (r h).set (r h').set) (hc : Finset.univ.biUnion (fun h => (r h).set) = Finset.univ)

theorem any_slot (h : Fin 8) : (any ((Memref.whole b).access (r h)) c : sProp (𝕄R F))
    = iprop(∃ f : Buf (Elt F) ((c : Thread nD τ).loc b), ((c : Thread nD τ).loc b) ↦[(r h).set]{fullShare} f) := by
  unfold any
  rw [show ((Memref.whole b).access (r h)).set = (r h).set from View.set_slice_whole b (r h)]

include hd hc in
theorem slots_split : anyBuf c b ⊢ (bigSep Finset.univ fun h => any ((Memref.whole b).access (r h)) c : sProp (𝕄R F)) := by
  rw [bigSep_congr fun h _ => any_slot c b r h]
  unfold anyBuf
  iintro ⟨%f, H⟩
  have hm : (iprop(((c : Thread nD τ).loc b) ↦{fullShare} f) : sProp (𝕄R F)) ⊢ bigSep Finset.univ fun h : Fin 8 =>
      iprop(∃ f : Buf (Elt F) ((c : Thread nD τ).loc b), ((c : Thread nD τ).loc b) ↦[(r h).set]{fullShare} f) := by
    rw [Ring.pointsTo_blocks (fun h => (r h).set) hd hc f]
    refine bigSep_mono fun h _ => ?_
    show (iprop(((c : Thread nD τ).loc b) ↦[(r h).set]{fullShare} f) : sProp (𝕄R F)) ⊢ _
    iintro H; iexists f; iexact H
  iapply hm; iexact H

include hd hc in
theorem slots_join : (bigSep Finset.univ fun h => any ((Memref.whole b).access (r h)) c : sProp (𝕄R F)) ⊢ anyBuf c b := by
  rw [bigSep_congr fun h _ => any_slot c b r h]
  refine BIBase.Entails.trans ?_ (show iprop(∃ f₀ : Buf (Elt F) ((c : Thread nD τ).loc b), bigSep Finset.univ fun h : Fin 8 =>
    iprop(∃ f : Buf (Elt F) ((c : Thread nD τ).loc b), ((c : Thread nD τ).loc b) ↦[(r h).set]{fullShare} f)) ⊢ anyBuf c b from by
      unfold anyBuf
      iintro ⟨%f₀, H⟩
      iapply (Ring.pointsTo_blocks_join_exists (fun h => (r h).set) hd hc f₀); iexact H)
  rw [bigSep_univ_at _ (0 : Fin 8)]
  iintro ⟨⟨%f, H0⟩, H⟩
  iexists f
  isplitl [H0]; · iexists f; iexact H0
  iexact H

end Split

theorem rB_disjoint (h h' : Fin 8) (hh : h ≠ h') : Disjoint (rB h).set (rB h').set :=
  Ring.lead_disjoint (s := S8x8x256x128) 0 1 (fun h : Fin 8 => ![h.val, 0, 0, 0]) S1x8x256x128.size inbB (fun h => (Nat.one_mul h.val).symm) rfl h h' hh
theorem rB_cover : Finset.univ.biUnion (fun h => (rB h).set) = Finset.univ :=
  Ring.lead_cover (s := S8x8x256x128) 0 1 (fun h : Fin 8 => ![h.val, 0, 0, 0]) S1x8x256x128.size inbB (fun h => (Nat.one_mul h.val).symm)
    (by decide) rfl (by decide) rfl
theorem rM_disjoint (h h' : Fin 8) (hh : h ≠ h') : Disjoint (rM h).set (rM h').set :=
  Ring.lead_disjoint (s := S8x1x8x256) 0 1 (fun h : Fin 8 => ![h.val, 0, 0, 0]) S1x1x8x256.size inbM (fun h => (Nat.one_mul h.val).symm) rfl h h' hh
theorem rM_cover : Finset.univ.biUnion (fun h => (rM h).set) = Finset.univ :=
  Ring.lead_cover (s := S8x1x8x256) 0 1 (fun h : Fin 8 => ![h.val, 0, 0, 0]) S1x1x8x256.size inbM (fun h => (Nat.one_mul h.val).symm)
    (by decide) rfl (by decide) rfl

variable (c : Dev nD)

/-- One slot of each ring buffer, holding anything. -/
def slot3 (h : Fin 8) : sProp (𝕄R F) := iprop(any (qA h) c ∗ any (oA h) c ∗ any (mA h) c)

/-- The three ring buffers cut into slots. -/
theorem ring_split : iprop(anyBuf c cc0_scratch0 ∗ anyBuf c cc0_scratch1 ∗ anyBuf c cc0_scratch2) ⊢ (bigSep Finset.univ fun h => slot3 c h : sProp (𝕄R F)) := by
  unfold slot3
  rw [bigSep_sep', bigSep_sep']
  iintro ⟨H0, H1, H2⟩
  isplitl [H0]; · iapply (slots_split c cc0_scratch0 rB rB_disjoint rB_cover); iexact H0
  isplitl [H1]; · iapply (slots_split c cc0_scratch1 rB rB_disjoint rB_cover); iexact H1
  iapply (slots_split c cc0_scratch2 rM rM_disjoint rM_cover); iexact H2
/-- And joined again. -/
theorem ring_join : (bigSep Finset.univ fun h => slot3 c h : sProp (𝕄R F)) ⊢ iprop(anyBuf c cc0_scratch0 ∗ anyBuf c cc0_scratch1 ∗ anyBuf c cc0_scratch2) := by
  unfold slot3
  rw [bigSep_sep', bigSep_sep']
  iintro ⟨H0, H1, H2⟩
  isplitl [H0]; · iapply (slots_join c cc0_scratch0 rB rB_disjoint rB_cover); iexact H0
  isplitl [H1]; · iapply (slots_join c cc0_scratch1 rB rB_disjoint rB_cover); iexact H1
  iapply (slots_join c cc0_scratch2 rM rM_disjoint rM_cover); iexact H2

theorem slotEnd_slot3 (D : Data F) (h : Fin 8) : slotEnd D c h ⊢ slot3 c h := by
  unfold slotEnd slot3
  iintro ⟨H0, H1, H2⟩
  isplitl [H0]; · iapply (own_any (qA h) c (Qv D h.val c)); iexact H0
  isplitl [H1]; · iapply (own_any (oA h) c (Ov D h.val c)); iexact H1
  iapply (own_any (mA h) c (Mv D h.val c)); iexact H2

/-- A whole buffer through its own view. -/
theorem any_view (b : Ref sig .tc) : (any (Memref.whole b).view c : sProp (𝕄R F)) = anyBuf c b := by
  unfold any anyBuf
  rw [show (Memref.whole b).view.set = Finset.univ from View.set_whole b]
theorem own_view (b : Ref sig .tc) (V : Vec F b.ty.shape b.ty.elt) : (own (Memref.whole b).view c fullShare V : sProp (𝕄R F))
    = iprop(((c : Thread nD τ).loc b) ↦{fullShare} (V : Buf (Elt F) ((c : Thread nD τ).loc b))) := by
  unfold own
  rw [show (Memref.whole b).view.set = Finset.univ from View.set_whole b]
  refine BI.Entails.antisymm ?_ ?_
  · show iprop(∃ f : Buf (Elt F) ((c : Thread nD τ).loc b), ⌜f = V⌝ ∗ ((c : Thread nD τ).loc b) ↦{fullShare} f) ⊢ (iprop(((c : Thread nD τ).loc b) ↦{fullShare} (V : Buf (Elt F) ((c : Thread nD τ).loc b))) : sProp (𝕄R F))
    iintro ⟨%f, %hf, H⟩
    obtain rfl : f = V := hf
    iexact H
  · show (iprop(((c : Thread nD τ).loc b) ↦{fullShare} (V : Buf (Elt F) ((c : Thread nD τ).loc b))) : sProp (𝕄R F)) ⊢ iprop(∃ f : Buf (Elt F) ((c : Thread nD τ).loc b), ⌜f = V⌝ ∗ ((c : Thread nD τ).loc b) ↦{fullShare} f)
    iintro H
    iexists V
    isplitr; · ipureintro; rfl
    iexact H
theorem acc_eq : (acc c : sProp (𝕄R F)) = iprop(anyBuf c cc0_scratch3 ∗ anyBuf c cc0_scratch4) := by
  unfold acc
  rw [show (any (olM.access rAll) c : sProp (𝕄R F)) = any (Memref.whole cc0_scratch3).view c from any_whole cc0_scratch3 off0 _,
    show (any (mlM.access rMl) c : sProp (𝕄R F)) = any (Memref.whole cc0_scratch4).view c from any_whole cc0_scratch4 off0 _, any_view, any_view]
theorem fin_any : (any (finM.access rAll) c : sProp (𝕄R F)) = anyBuf c cc0_scratch5 := by
  rw [show (any (finM.access rAll) c : sProp (𝕄R F)) = any (Memref.whole cc0_scratch5).view c from any_whole cc0_scratch5 off0 _, any_view]

end Cert.Proof.Ring

end
-- ==== Proof.Cells.lean ====
/-
A device's own cells, opened when the region begins and closed when it ends.
-/
module

public import proofs.«01_k».proof.Proof.Slots
import all proofs.«01_k».proof.Proof.Hops
import all proofs.«01_k».proof.Proof.Values
import all proofs.«01_k».proof.Proof.Protocol
import all proofs.«01_k».proof.Proof.Steps
import all proofs.«01_k».proof.Proof.Local
import all proofs.«01_k».proof.Proof.Hop
import all proofs.«01_k».proof.Proof.Body
import all proofs.«01_k».proof.Proof.Slots

@[expose] public section

noncomputable section

namespace Cert.Proof.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Families over the cells of one device -/

/-- Three families of slots, the ones a hop uses together. -/
abbrev tri (Φ : KS → sProp (𝕄R F)) (a b d : Fin 6) (h : Fin 8) : sProp (𝕄R F) := iprop(Φ (.inl (a, h)) ∗ Φ (.inl (b, h)) ∗ Φ (.inl (d, h)))

/-- Entailment both ways is equality. -/
theorem eq_of_both {P Q : sProp (𝕄R F)} (h : P ⊢ Q) (h' : Q ⊢ P) : P = Q := BI.Entails.antisymm h h'

theorem six (Φ : Fin 6 → sProp (𝕄R F)) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]
  rfl
theorem two (Φ : Bool → sProp (𝕄R F)) : bigSep Finset.univ Φ = iprop(Φ false ∗ Φ true) := by
  rw [bigSep_univ_eq_bigSepL [false, true] (by decide) (by decide)]
  rfl
/-- A family over eight by its last, and by its first. -/
theorem eight_last (Φ : Fin 8 → sProp (𝕄R F)) : bigSep Finset.univ Φ = iprop((bigSep Finset.univ fun h : Fin 7 => Φ h.castSucc) ∗ Φ 7) := by
  rw [seven, eight]
  refine eq_of_both ?_ ?_
  · iintro ⟨H0, H1, H2, H3, H4, H5, H6, H7⟩
    isplitr [H7]
    · isplitl [H0]; · iexact H0
      isplitl [H1]; · iexact H1
      isplitl [H2]; · iexact H2
      isplitl [H3]; · iexact H3
      isplitl [H4]; · iexact H4
      isplitl [H5] <;> iassumption
    iexact H7
  · iintro ⟨⟨H0, H1, H2, H3, H4, H5, H6⟩, H7⟩
    isplitl [H0]; · iexact H0
    isplitl [H1]; · iexact H1
    isplitl [H2]; · iexact H2
    isplitl [H3]; · iexact H3
    isplitl [H4]; · iexact H4
    isplitl [H5]; · iexact H5
    isplitl [H6] <;> iassumption
theorem eight_first (Φ : Fin 8 → sProp (𝕄R F)) : bigSep Finset.univ Φ = iprop(Φ 0 ∗ bigSep Finset.univ fun h : Fin 7 => Φ h.succ) := by
  rw [seven, eight]
  rfl

/-- A family over a device's own cells, by use: the send cells, the receive cells, the idle ones, the two of the final transfer. -/
theorem cells_eq (Φ : KS → sProp (𝕄R F)) : bigSep Finset.univ Φ
    = iprop((bigSep Finset.univ fun h : Fin 7 => tri Φ 0 2 4 h.castSucc) ∗ (bigSep Finset.univ fun h : Fin 7 => tri Φ 1 3 5 h.succ)
      ∗ tri Φ 0 2 4 7 ∗ tri Φ 1 3 5 0 ∗ Φ (.inr false) ∗ Φ (.inr true)) := by
  unfold tri
  rw [show bigSep Finset.univ Φ = iprop((bigSep Finset.univ fun x : Fin 6 × Fin 8 => Φ (.inl x)) ∗ bigSep Finset.univ fun x : Bool => Φ (.inr x)) from
      BI.bigSep_univ_sum Φ, bigSep_univ_prod, six, two, eight_last, eight_first, eight_last, eight_first, eight_last, eight_first,
    bigSep_sep', bigSep_sep', bigSep_sep', bigSep_sep']
  refine eq_of_both ?_ ?_
  · iintro ⟨⟨⟨A0, I0⟩, ⟨I1, A1⟩, ⟨A2, I2⟩, ⟨I3, A3⟩, ⟨A4, I4⟩, ⟨I5, A5⟩⟩, B0, B1⟩
    isplitl [A0 A2 A4]
    · isplitl [A0]; · iexact A0
      isplitl [A2] <;> iassumption
    isplitl [A1 A3 A5]
    · isplitl [A1]; · iexact A1
      isplitl [A3] <;> iassumption
    isplitl [I0 I2 I4]
    · isplitl [I0]; · iexact I0
      isplitl [I2] <;> iassumption
    isplitl [I1 I3 I5]
    · isplitl [I1]; · iexact I1
      isplitl [I3] <;> iassumption
    isplitl [B0] <;> iassumption
  · iintro ⟨⟨A0, A2, A4⟩, ⟨A1, A3, A5⟩, ⟨I0, I2, I4⟩, ⟨I1, I3, I5⟩, B0, B1⟩
    isplitr [B0 B1]
    · isplitl [A0 I0]; · isplitl [A0] <;> iassumption
      isplitl [A1 I1]; · isplitl [I1] <;> iassumption
      isplitl [A2 I2]; · isplitl [A2] <;> iassumption
      isplitl [A3 I3]; · isplitl [I3] <;> iassumption
      isplitl [A4 I4]; · isplitl [A4] <;> iassumption
      isplitl [I5] <;> iassumption
    isplitl [B0] <;> iassumption

/-! ## Opening -/

section Open

variable (D : Data F) (κ : GSem nD τ sig → ℕ) (c : Dev nD)

/-- What every device knows before the region: the invariants, and that every barrier cell is open. -/
def recs : sProp (𝕄R F) := iprop(Inv D κ ∗ bigSep Finset.univ fun c : Dev nD => reached ER (barCell c) 0)
instance recs_persistent : BI.Persistent (recs D κ) := by unfold recs; infer_instance

/-- The credits of the receive cells of slot `h`. -/
def rcvCred (h : Fin 8) : sProp (𝕄R F) := iprop(cred (tallyAt (cell 1 h c) () Nq) ∗ cred (tallyAt (cell 3 h c) () No) ∗ cred (tallyAt (cell 5 h c) () Nm))
/-- What the device holds of the protocol from the launch on, but for its own cells. -/
def held₀ : sProp (𝕄R F) :=
  iprop((dutyTok ER (barCell (prv c)) 0 true ∗ dutyTok ER (barCell (nxt c)) 0 false ∗ (cred (tallyAt (barCell c) () 2) ∗ atPos ER (barCell c) 0 ∅ 0))
    ∗ (bigSep Finset.univ fun h : Fin 7 => toks c h)
    ∗ (bigSep Finset.univ fun h : Fin 7 => rcvCred c h.succ)
    ∗ (dutyTok ER (fsCell c) 0 true ∗ dutyTok ER (frCell (nxt c)) 0 true)
    ∗ cred (tallyAt (frCell c) () Nf))
/-- With its own cells still to open. -/
def Tk : sProp (𝕄R F) := iprop(∃ κ, recs D κ ∗ held₀ c ∗ bigSep Finset.univ fun k : KS => openTok ER (kcell k c))
/-- The cells no transfer pays. -/
def idle : sProp (𝕄R F) := iprop(at3 c 0 2 4 7 0 ∗ at3 c 1 3 5 0 0)
/-- With its own cells open. -/
def Xk : sProp (𝕄R F) := iprop(∃ κ, ctx D κ c ∗ ghostPre c ∗ idle c)

theorem inv_own (k : KS) (d : Dev nD) : recs D κ ⊢ cellInv ER (sched D) (κ (kcell k d)) (kcell k d) := by
  unfold recs Inv
  iintro ⟨⟨-, H⟩, -⟩
  iapply (bigSep_at (fun ck : Dev nD × KS => cellInv ER (sched D) (κ (kcell ck.2 ck.1)) (kcell ck.2 ck.1)) (d, k)); iexact H

theorem open_cell (k : KS) : iprop(recs D κ ∗ (openTok ER (kcell k c) ∗ semVal (kcell k c) 0))
    ⊢ (iprop(|={Set.univ}=> (atPos ER (kcell k c) 0 ∅ 0 ∗ reached ER (kcell k c) 0)) : sProp (𝕄R F)) := by
  iintro ⟨#Hi, Ho, Hv⟩
  ihave #HI := (inv_own D κ k c) $$ Hi
  iapply (Rounds.cell_open ER (sched D) (g := kcell k c) (Set.mem_univ (κ (kcell k c))))
  isplitr; · iexact HI
  isplitl [Ho] <;> iassumption

theorem open_all : iprop(recs D κ ∗ (bigSep Finset.univ fun k : KS => openTok ER (kcell k c)) ∗ Pipeline.ownSems0 osem c)
    ⊢ (iprop(|={Set.univ}=> ((bigSep Finset.univ fun k : KS => atPos ER (kcell k c) 0 ∅ 0) ∗ bigSep Finset.univ fun k : KS => reached ER (kcell k c) 0)) : sProp (𝕄R F)) := by
  unfold Pipeline.ownSems0
  rw [← bigSep_sep', ← bigSep_sep']
  exact (bigSep_with_persistent fun k _ => open_cell D κ c k).trans (bigSep_fupd _ _)

theorem hopen : iprop(Tk D c ∗ Pipeline.ownSems0 osem c ∗ levAts L lv) ⊢ (|={Set.univ}=> Xk D c : sProp (𝕄R F)) := by
  unfold Tk Xk
  iintro ⟨⟨%κ, #Hr, Hh, Ho⟩, Hs, #Hlev⟩
  imod (open_all D κ c) $$ [Ho Hs] with ⟨Hat, #Hre⟩
  · isplitr; · iexact Hr
    isplitl [Ho] <;> iassumption
  imodintro
  iexists κ
  isplitr
  · unfold ctx recs
    icases Hr with ⟨#HI, #Hb⟩
    isplitr; · iexact HI
    isplitr; · iexact Hlev
    isplitr; · iexact Hb
    iexact Hre
  ihave Hat := (Entails.of_eq (cells_eq fun k : KS => (atPos ER (kcell k c) 0 ∅ 0 : sProp (𝕄R F)))) $$ Hat
  icases Hat with ⟨Has, Har, Hi1, Hi2, Hfs, Hfr⟩
  unfold held₀ ghostPre idle
  icases Hh with ⟨Hbar, Htok, Hcr, Hft, Hfc⟩
  isplitr [Hi1 Hi2]
  · isplitl [Hbar]; · iexact Hbar
    isplitl [Htok]; · iexact Htok
    isplitl [Hcr Har]
    · have e : iprop((bigSep Finset.univ fun h : Fin 7 => rcvCred c h.succ) ∗ bigSep Finset.univ fun h : Fin 7 => at3 c 1 3 5 h.succ 0)
          ⊢ (bigSep Finset.univ fun h : Fin 7 => rcv c h.succ : sProp (𝕄R F)) := by
        rw [← bigSep_sep']
        refine bigSep_mono fun h _ => ?_
        show (iprop(rcvCred c h.succ ∗ at3 c 1 3 5 h.succ 0) : sProp (𝕄R F)) ⊢ rcv c h.succ
        unfold rcvCred at3 rcv
        iintro ⟨⟨C1, C2, C3⟩, A1, A2, A3⟩
        isplitl [C1 A1]; · isplitl [C1] <;> iassumption
        isplitl [C2 A2]; · isplitl [C2] <;> iassumption
        isplitl [C3] <;> iassumption
      iapply e
      isplitl [Hcr]; · iexact Hcr
      unfold at3
      iexact Har
    isplitl [Has]; · unfold at3; iexact Has
    isplitl [Hft]; · iexact Hft
    isplitl [Hfs]; · iexact Hfs
    isplitl [Hfc] <;> iassumption
  unfold at3
  isplitl [Hi1] <;> iassumption

end Open

/-! ## Closing -/

section Close

variable {D : Data F} {κ : GSem nD τ sig → ℕ} {c : Dev nD}

theorem close_cell (k : KS) (r : ℕ) (hr : ∀ r', r ≤ r' → (sched D).duties (kcell k c) r' = ∅) :
    iprop(ctx D κ c ∗ atPos ER (kcell k c) r ∅ 0) ⊢ (iprop(|={Set.univ}=> semVal (kcell k c) 0) : sProp (𝕄R F)) := by
  iintro ⟨#Hc, Ha⟩
  ihave #HI := (ctx_own D κ c k c) $$ Hc
  iapply (Rounds.cell_close ER (sched D) (Set.mem_univ (κ (kcell k c))) (fun h => h) (R := r) hr)
  isplitr; · iexact HI
  iexact Ha
theorem close_bar : iprop(ctx D κ c ∗ atPos ER (barCell c) 1 ∅ 0) ⊢ (iprop(|={Set.univ}=> semVal (barCell c) 0) : sProp (𝕄R F)) := by
  iintro ⟨#Hc, Ha⟩
  ihave #HI := (ctx_bar D κ c c) $$ Hc
  iapply (Rounds.cell_close ER (sched D) (Set.mem_univ (κ (barCell c))) (fun h => h) (R := 1) (duties_later D _))
  isplitr; · iexact HI
  iexact Ha

theorem close3 (a b d : Fin 6) (h : Fin 8) (r : ℕ)
    (hr : ∀ f, f = a ∨ f = b ∨ f = d → ∀ r', r ≤ r' → (sched D).duties (cell f h c) r' = ∅) :
    iprop(ctx D κ c ∗ at3 c a b d h r) ⊢ (iprop(|={Set.univ}=> tri (fun k => semVal (kcell k c) 0) a b d h) : sProp (𝕄R F)) := by
  unfold at3 tri
  iintro ⟨#Hc, Ha, Hb, Hd⟩
  imod (close_cell (κ := κ) (.inl (a, h)) r (hr a (.inl rfl))) $$ [Ha] with Ha
  · isplitr; · iexact Hc
    iexact Ha
  imod (close_cell (κ := κ) (.inl (b, h)) r (hr b (.inr (.inl rfl)))) $$ [Hb] with Hb
  · isplitr; · iexact Hc
    iexact Hb
  imod (close_cell (κ := κ) (.inl (d, h)) r (hr d (.inr (.inr rfl)))) $$ [Hd] with Hd
  · isplitr; · iexact Hc
    iexact Hd
  imodintro
  isplitl [Ha]; · iexact Ha
  isplitl [Hb] <;> iassumption

theorem duties_never {f : Fin 6} {h : Fin 8} (ha : act f h = false) : ∀ r, 0 ≤ r → (sched D).duties (cell f h c) r = ∅ := fun r _ => by
  rcases Nat.eq_zero_or_pos r with rfl | hr
  · exact duties_idle D c ha
  · exact duties_later D _ r hr

/-- At the end every cell of the device closes at zero. -/
theorem close_all : iprop(ctx D κ c ∗ ghostPost c ∗ idle c)
    ⊢ (iprop(|={Set.univ}=> (semVal (barCell c) 0 ∗ Pipeline.ownSems0 osem c)) : sProp (𝕄R F)) := by
  unfold ghostPost idle Pipeline.ownSems0
  iintro ⟨#Hc, ⟨Hb, Hr, Hs, Hfs, Hfr⟩, Hi1, Hi2⟩
  imod (close_bar (κ := κ)) $$ [Hb] with Hb
  · isplitr; · iexact Hc
    iexact Hb
  imod ((bigSep_with_persistent (R := ctx D κ c) (S := Finset.univ) (Φ := fun h : Fin 7 => rcvd c h.succ)
    fun h _ => close3 1 3 5 h.succ 1 fun f _ => duties_later D _).trans (bigSep_fupd _ _)) $$ [Hr] with Hr
  · isplitr; · iexact Hc
    iexact Hr
  imod ((bigSep_with_persistent (R := ctx D κ c) (S := Finset.univ) (Φ := fun h : Fin 7 => at3 c 0 2 4 h.castSucc 1)
    fun h _ => close3 0 2 4 h.castSucc 1 fun f _ => duties_later D _).trans (bigSep_fupd _ _)) $$ [Hs] with Hs
  · isplitr; · iexact Hc
    iexact Hs
  imod (close3 (D := D) (κ := κ) (c := c) 0 2 4 7 0 (by rintro f (rfl | rfl | rfl) <;> exact duties_never (by decide))) $$ [Hi1] with Hi1
  · isplitr; · iexact Hc
    iexact Hi1
  imod (close3 (D := D) (κ := κ) (c := c) 1 3 5 0 0 (by rintro f (rfl | rfl | rfl) <;> exact duties_never (by decide))) $$ [Hi2] with Hi2
  · isplitr; · iexact Hc
    iexact Hi2
  imod (close_cell (D := D) (κ := κ) (c := c) (.inr false) 1 (duties_later D _)) $$ [Hfs] with Hfs
  · isplitr; · iexact Hc
    iexact Hfs
  imod (close_cell (D := D) (κ := κ) (c := c) (.inr true) 1 (duties_later D _)) $$ [Hfr] with Hfr
  · isplitr; · iexact Hc
    iexact Hfr
  imodintro
  isplitl [Hb]; · iexact Hb
  iapply (Entails.of_eq (cells_eq fun k : KS => (semVal (kcell k c) 0 : sProp (𝕄R F))).symm)
  isplitl [Hs]; · iexact Hs
  isplitl [Hr]; · iexact Hr
  isplitl [Hi1]; · iexact Hi1
  isplitl [Hi2]; · iexact Hi2
  isplitl [Hfs] <;> iassumption

end Close

end Cert.Proof.Ring

end
-- ==== Proof.Region.lean ====
/-
The pallas_call as one segment of the program: what its windows hold, and that its body, entered from the protocol's launch
state, ends with every semaphore at zero and the device's block of the result in the output window.
-/
module

public import proofs.«01_k».proof.Proof.Cells
public import Idealize.ShloMosaic.Lib.Pipeline.Value
import all proofs.«01_k».proof.Proof.Hops
import all proofs.«01_k».proof.Proof.Values
import all proofs.«01_k».proof.Proof.Protocol
import all proofs.«01_k».proof.Proof.Steps
import all proofs.«01_k».proof.Proof.Local
import all proofs.«01_k».proof.Proof.Hop
import all proofs.«01_k».proof.Proof.Body
import all proofs.«01_k».proof.Proof.Slots
import all proofs.«01_k».proof.Proof.Cells

@[expose] public section

noncomputable section

namespace Cert.Proof.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (ℓ : Loc nD τ sig) → Buf (Elt F) ℓ) (ρ : Dev nD → PrngReg)

/-! ## What the arrays hold -/

/-- Device `c`'s buffers at launch, and once the host operations before the region have run. -/
abbrev V₀ (c : Dev nD) : Valuation τ sig (Elt F) := fun b => m (c, b)
abbrev V₁ (c : Dev nD) : Valuation τ sig (Elt F) := StableHlo.after hostOps0 (V₀ m c)

/-- What the kernel's three operands hold on each device. -/
def data : Data F where
  q c := V₁ m c (Proc.devRef .tc main_v9)
  k c := V₁ m c (Proc.devRef .tc main_v12)
  v c := V₁ m c (Proc.devRef .tc main_v15)

/-- After the region the result's array holds the device's block. -/
abbrev V₂ (c : Dev nD) : Valuation τ sig (Elt F) := Function.update (V₁ m c) (Proc.devRef .tc main_v16) (Res (data m) c)

/-! ## The proof data -/

/-- The scratch buffers, holding anything. -/
def scratch (c : Dev nD) : sProp (𝕄R F) :=
  iprop(anyBuf c cc0_scratch0 ∗ anyBuf c cc0_scratch1 ∗ anyBuf c cc0_scratch2 ∗ anyBuf c cc0_scratch3 ∗ anyBuf c cc0_scratch4 ∗ anyBuf c cc0_scratch5)

def before₀ (c : Dev nD) : sProp (𝕄R F) := iprop(Xk (data m) c ∗ scratch c ∗ ∃ r, prngReg c r)
def after₀ (c : Dev nD) : sProp (𝕄R F) := iprop((semVal (barCell c) 0 ∗ Pipeline.ownSems0 osem c) ∗ scratch c ∗ ∃ r, prngReg c r)

/-- The region's proof data on device `c`: the operands in, the block of the result out, and the protocol's state on either side. -/
def dat0 (c : Dev nD) : Dat τ (Elt F) Unit ℕ UU ℕ cfg0 c where
  A w := V₁ m c (Proc.devRef .tc (Pipeline.arrRef spec0 w))
  after w _ := match w with
    | ⟨0, _⟩ => (data m).q c
    | ⟨1, _⟩ => (data m).k c
    | ⟨2, _⟩ => (data m).v c
    | ⟨3, _⟩ => Res (data m) c
  Φ t := if t.val = 0 then before₀ m c else after₀ c
  q _ := fullShare
  owed t := if t.val = 0 then owed₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

/-! ## A window that is its whole array -/

theorem blk_q (f : Vec F S8x256x128 .bf16) : ((cfg0.win 0).blk t0_0).view.read (Elt F) f = f := by
  funext i
  show f ((win0_0.rect t0_0).emb i) = f i
  congr 1
  funext a
  exact Fin.ext (Pipeline.Window.rect_emb_val_of_index_zero win0_0 t0_0 a rfl i)
theorem blk_k (f : Vec F S8x4096x128 .bf16) : ((cfg0.win 1).blk t0_0).view.read (Elt F) f = f := by
  funext i
  show f ((win0_1.rect t0_0).emb i) = f i
  congr 1
  funext a
  exact Fin.ext (Pipeline.Window.rect_emb_val_of_index_zero win0_1 t0_0 a rfl i)
theorem blk_v (f : Vec F S8x4096x128 .bf16) : ((cfg0.win 2).blk t0_0).view.read (Elt F) f = f := by
  funext i
  show f ((win0_2.rect t0_0).emb i) = f i
  congr 1
  funext a
  exact Fin.ext (Pipeline.Window.rect_emb_val_of_index_zero win0_2 t0_0 a rfl i)
theorem blk_o (f : Vec F S8x256x128 .bf16) : ((cfg0.win 3).blk t0_0).view.read (Elt F) f = f := by
  funext i
  show f ((win0_3.rect t0_0).emb i) = f i
  congr 1
  funext a
  exact Fin.ext (Pipeline.Window.rect_emb_val_of_index_zero win0_3 t0_0 a rfl i)

theorem before_q (c : Dev nD) (d) : (dat0 m c).before 0 t0_0 d = (data m).q c := by
  unfold Dat.before; rw [if_pos (fetch0_0 _)]
  exact blk_q ((data m).q c)
theorem before_k (c : Dev nD) (d) : (dat0 m c).before 1 t0_0 d = (data m).k c := by
  unfold Dat.before; rw [if_pos (fetch0_1 _)]
  exact blk_k ((data m).k c)
theorem before_v (c : Dev nD) (d) : (dat0 m c).before 2 t0_0 d = (data m).v c := by
  unfold Dat.before; rw [if_pos (fetch0_2 _)]
  exact blk_v ((data m).v c)

theorem out_cover (i : S8x256x128.Idx) : ∃ t : Fin cfg0.N, (cfg0.win 3).flush t = true ∧ i ∈ ((cfg0.win 3).blk t).view.set := by
  refine ⟨t0_0, flush0_3 _, ?_⟩
  show i ∈ ((View.whole main_v16).slice (win0_3.rect t0_0)).set
  rw [View.set_slice_whole, Rect.mem_set_unit]
  intro a
  have e : win0_3.index t0_0 a * win0_3.size a = 0 := Nat.zero_mul _
  refine ⟨?_, ?_⟩
  · show win0_3.index t0_0 a * win0_3.size a ≤ (i a : Nat)
    rw [e]; exact Nat.zero_le _
  · show (i a : Nat) < win0_3.index t0_0 a * win0_3.size a + S8x256x128.size a
    rw [e, Nat.zero_add]; exact (i a).isLt

/-- The result's array ends at the device's block. -/
theorem arr_out (c : Dev nD) : (dat0 m c).arrAt 3 cfg0.N = Res (data m) c :=
  (dat0 m c).arrAt_eq_of_cover 3 (Res (data m) c) (fun t _ => by
    obtain rfl := fin_N0 t
    exact (blk_o (Res (data m) c)).symm) out_cover

/-! ## The body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp (𝕄R F))
      = iprop(∃ f : Buf (Elt F) ((c : Thread nD τ).loc b), ⌜f = X⌝ ∗ ((c : Thread nD τ).loc b) ↦{fullShare} f) := by
  unfold owns; simp only [Memref.view_whole, View.read_whole, View.set_whole]

theorem owes_in (c : Dev nD) (t : Fin (cfg0.N + 1)) (O : CellTallies nD τ sig Unit) (h : (dat0 m c).owed t = O) :
    owesE c O ⊢ ((dat0 m c).owesAt () t : sProp (𝕄R F)) := by
  unfold owesE Dat.owesAt Pipeline.owesWithin
  rw [h]
  iintro ⟨%W, HO⟩
  iexists W
  isplitr; · ipureintro; exact fun _ _ => Or.inl trivial
  iexact HO
theorem owes_out (c : Dev nD) (t : Fin (cfg0.N + 1)) (O : CellTallies nD τ sig Unit) (h : (dat0 m c).owed t = O) :
    ((dat0 m c).owesAt () t : sProp (𝕄R F)) ⊢ owesE c O := by
  unfold owesE Dat.owesAt Pipeline.owesWithin
  rw [h]
  iintro ⟨%W, -, HO⟩
  iexists W
  iexact HO

/-- The slots handed to the left neighbour, and slot 0 kept. -/
theorem slots_lend (κ : GSem nD τ sig → ℕ) (c : Dev nD) :
    iprop(ctx (data m) κ c ∗ (bigSep Finset.univ fun h => slot3 c h) ∗ any (outM : Memref sig .tc .vmem S8x256x128 .bf16).view c)
      ⊢ (iprop(slot3 c 0 ∗ barPay c) : sProp (𝕄R F)) := by
  rw [eight_first]
  unfold barPay
  iintro ⟨#Hc, ⟨H0, Hs⟩, Ho⟩
  isplitl [H0]; · iexact H0
  isplitl [Hs]
  · have e : iprop(ctx (data m) κ c ∗ bigSep Finset.univ fun h : Fin 7 => slot3 c h.succ) ⊢ (bigSep Finset.univ fun h : Fin 7 => lend c h : sProp (𝕄R F)) :=
      bigSep_with_persistent fun h _ => by
        unfold slot3 lend
        iintro ⟨#Hc, Hs⟩
        ihave #H1 := (ctx_reached (data m) κ c (.inl (1, h.succ))) $$ Hc
        ihave #H3 := (ctx_reached (data m) κ c (.inl (3, h.succ))) $$ Hc
        ihave #H5 := (ctx_reached (data m) κ c (.inl (5, h.succ))) $$ Hc
        isplitl [Hs]; · iexact Hs
        isplitr; · iexact H1
        isplitr; · iexact H3
        iexact H5
    iapply e
    isplitr; · iexact Hc
    iexact Hs
  ihave #Hr := (ctx_reached (data m) κ c (.inr true)) $$ Hc
  isplitl [Ho]; · iexact Ho
  iexact Hr

theorem run_fupd {c : Dev nD} {P : PB F} {Q : PUnit → sProp (𝕄R F)} : run c P (fun a => iprop(|={Set.univ}=> Q a)) ⊢ run c P Q := wp_fupd _ _ _ P Q

/-- The body on device `c`, from whole buffers to whole buffers, every cell closed. -/
theorem region_run (c : Dev nD) {Q : PUnit → sProp (𝕄R F)} :
    iprop(Xk (data m) c ∗ scratch c ∗ qPts (data m) c ∗ KV c ((data m).k c) ((data m).v c) ∗ anyBuf c cc0_stg3_0 ∗ owesE c (owed₀ c))
      ⊢ iprop((((semVal (barCell c) 0 ∗ Pipeline.ownSems0 osem c) ∗ scratch c ∗ qPts (data m) c ∗ KV c ((data m).k c) ((data m).v c)
            ∗ own (outM : Memref sig .tc .vmem S8x256x128 .bf16).view c fullShare (Res (data m) c) ∗ owesE c 0) -∗ Q ⟨⟩)
        -∗ run c ringBody Q) := by
  unfold Xk scratch
  iintro ⟨⟨%κ, #Hc, Hg, Hi⟩, ⟨S0, S1, S2, S3, S4, S5⟩, Hq, HKV, Ho, HO⟩ HQ
  ihave Hs := (ring_split c) $$ [S0 S1 S2]
  · isplitl [S0]; · iexact S0
    isplitl [S1] <;> iassumption
  ihave Hs := (slots_lend m κ c) $$ [Hs Ho]
  · isplitr; · iexact Hc
    isplitl [Hs]; · iexact Hs
    rw [show (any (outM : Memref sig .tc .vmem S8x256x128 .bf16).view c : sProp (𝕄R F)) = anyBuf c cc0_stg3_0 from any_view c cc0_stg3_0]
    iexact Ho
  icases Hs with ⟨H0, Hb⟩
  iapply run_fupd
  iapply (body_run (D := data m) (κ := κ) (c := c)) $$ [Hg Hb H0 S3 S4 S5 Hq HKV HO]
  · isplitr; · iexact Hc
    isplitl [Hg]; · iexact Hg
    isplitl [Hb]; · iexact Hb
    isplitl [H0]; · unfold slot3; iexact H0
    isplitl [S5]; · rw [fin_any]; iexact S5
    isplitl [Hq]; · iexact Hq
    unfold stay
    rw [acc_eq]
    isplitl [HKV]; · iexact HKV
    isplitl [S3 S4]; · isplitl [S3] <;> iassumption
    iexact HO
  iintro ⟨Hg, Hs, Hf, Ho, Hq, Hst⟩
  imod (close_all (D := data m) (κ := κ) (c := c)) $$ [Hg Hi] with Hz
  · isplitr; · iexact Hc
    isplitl [Hg] <;> iassumption
  imodintro
  iapply HQ
  isplitl [Hz]; · iexact Hz
  unfold stay
  icases Hst with ⟨HKV, Hacc, HO⟩
  isplitl [Hs Hacc Hf]
  · have e : (bigSep Finset.univ fun h : Fin 8 => slotEnd (data m) c h) ⊢ (iprop(anyBuf c cc0_scratch0 ∗ anyBuf c cc0_scratch1 ∗ anyBuf c cc0_scratch2) : sProp (𝕄R F)) :=
      (bigSep_mono fun h _ => slotEnd_slot3 c (data m) h).trans (ring_join c)
    ihave Hs := e $$ Hs
    icases Hs with ⟨S0, S1, S2⟩
    ihave Hacc := (Entails.of_eq (acc_eq c)) $$ Hacc
    icases Hacc with ⟨S3, S4⟩
    ihave Hf := (own_any (finM : Memref sig .tc .vmem S8x256x128 .bf16).view c (Fin_ (data m) c)) $$ Hf
    ihave Hf := (Entails.of_eq (any_view c cc0_scratch5)) $$ Hf
    isplitl [S0]; · iexact S0
    isplitl [S1]; · iexact S1
    isplitl [S2]; · iexact S2
    isplitl [S3]; · iexact S3
    isplitl [S4] <;> iassumption
  isplitl [Hq]; · iexact Hq
  isplitl [HKV]; · iexact HKV
  isplitl [Ho] <;> iassumption

theorem owed_first (c : Dev nD) : (dat0 m c).owed t0_0.castSucc = owed₀ c := by
  show (if (t0_0.castSucc : Fin (cfg0.N + 1)).val = 0 then owed₀ c else 0) = owed₀ c; exact if_pos rfl
theorem owed_last (c : Dev nD) : (dat0 m c).owed t0_0.succ = 0 := by
  show (if (t0_0.succ : Fin (cfg0.N + 1)).val = 0 then owed₀ c else 0) = 0; exact if_neg (Nat.succ_ne_zero _)

theorem body_obligation (c : Dev nD) : BodyObligation (dat0 (F := F) m c) (defs₀ (F := F)) 𝒱₀ () Set.univ := fun t => by
  obtain rfl := fin_N0 t
  rw [bigSep_W0, bigSep_W0]
  simp only [owns_whole_eq]
  rw [show (dat0 m c).Φ t0_0.castSucc = before₀ m c from rfl, show (dat0 m c).Φ t0_0.succ = after₀ c from rfl]
  unfold before₀ after₀
  change _ ⊢ run c (bodyAt0 (F := F) t0_0) _
  rw [body_eq]
  iintro ⟨⟨HX, Hs, Hp⟩, HO, ⟨%d0, %f0, %hf0, H0⟩, ⟨%d1, %f1, %hf1, H1⟩, ⟨%d2, %f2, %hf2, H2⟩, ⟨%d3, %f3, %hf3, H3⟩⟩
  rw [before_q] at hf0
  rw [before_k] at hf1
  rw [before_v] at hf2
  subst hf0 hf1 hf2
  ihave HO := (owes_out m c t0_0.castSucc (owed₀ c) (owed_first m c)) $$ HO
  iapply (region_run m c) $$ [HX Hs HO H0 H1 H2 H3]
  · isplitl [HX]; · iexact HX
    isplitl [Hs]; · iexact Hs
    isplitl [H0]; · unfold qPts; iexact H0
    isplitl [H1 H2]; · unfold KV; isplitl [H1] <;> iassumption
    isplitl [H3]; · unfold anyBuf; iexists f3; iexact H3
    iexact HO
  iintro ⟨Hz, Hs, Hq, HKV, Ho, HO⟩
  isplitl [Hz Hs Hp]
  · isplitl [Hz]; · iexact Hz
    isplitl [Hs] <;> iassumption
  isplitl [HO]; · iapply (owes_in m c t0_0.succ 0 (owed_last m c)); iexact HO
  unfold qPts KV
  icases HKV with ⟨Hk, Hv⟩
  ihave Ho := (Entails.of_eq (own_view c cc0_stg3_0 (Res (data m) c))) $$ Ho
  isplitl [Hq]; · iexists _; isplitr; swap; (· iexact Hq); ipureintro; rfl
  isplitl [Hk]; · iexists _; isplitr; swap; (· iexact Hk); ipureintro; rfl
  isplitl [Hv]; · iexists _; isplitr; swap; (· iexact Hv); ipureintro; rfl
  iexists _; isplitr; swap; (· iexact Ho); ipureintro; rfl

/-! ## The segment -/

/-- The buffers of the program that no window stages. -/
def restBufs : Finset (DevRef τ sig) := Pipeline.ucRefs τ sig \ Pipeline.arrRefs (τ := τ) spec0

theorem hin (c : Dev nD) : iprop(Pipeline.scopedRest (Pipeline.pin (pcfgs (F := F)) adm 0).spec c ∗ (∃ r, prngReg c r) ∗ StableHlo.held (c.tc : Thread nD τ) ∅ (V₁ m c) ∗ Xk (data m) c)
    ⊢ (pdats m 0 c).Φ 0 := by
  rw [show (pdats m 0 c).Φ 0 = before₀ m c from rfl,
    show (Pipeline.scopedRest (Ix := Unit) (Name := ℕ) (U := UU) (Lvl := ℕ) (Val := Elt F) (Pipeline.pin (pcfgs (F := F)) adm 0).spec c : sProp (𝕄R F)) = scratch c from scopedRest0_eq c]
  unfold before₀
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c
      ∗ (semVal (barCell c) 0 : sProp (𝕄R F))) := by
  rw [show (pdats m 0 c).Φ (Fin.last _) = after₀ c from rfl,
    show (Pipeline.scopedRest (Ix := Unit) (Name := ℕ) (U := UU) (Lvl := ℕ) (Val := Elt F) (Pipeline.pin (pcfgs (F := F)) adm 0).spec c : sProp (𝕄R F)) = scratch c from scopedRest0_eq c]
  unfold after₀ StableHlo.held
  rw [bigSep_empty]
  iintro ⟨⟨Hb, Ho⟩, Hs, Hp⟩
  isplitl [Hs]; · iexact Hs
  isplitl [Hp]; · iexact Hp
  isplitr; · iempintro
  isplitl [Ho] <;> iassumption

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem stage_kind : ∀ (w : Fin 4) (s : Fin (spec0 w).nbuf), kd (.dma ((spec0 w).sem s)) = .non := by decide
theorem stage_level (w : Fin 4) (s : Fin (spec0 w).nbuf) (c : Dev nD) : lv ((c : Thread nD τ), .dma ((spec0 w).sem s)) () ≤ 0 := by
  unfold lv; rw [stage_kind w s]

theorem cut_owed (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then owed₀ c else 0 := rfl
  rw [e] at h
  split at h
  · exact above_owed₀ c g i h
  · exact absurd h (Nat.lt_irrefl 0)

theorem V₂_other (c : Dev nD) (b : DevRef τ sig) (h : b ≠ Proc.devRef .tc main_v16) : V₂ m c b = V₁ m c b := Function.update_of_ne h ..

theorem V₂_out (c : Dev nD) : V₂ m c (Proc.devRef .tc main_v16) = Res (data m) c := Function.update_self ..

theorem arr_after (c : Dev nD) : ∀ w, (pdats (F := F) m 0 c).arrAt w (Pipeline.pin (pcfgs (F := F)) adm 0).N
    = V₂ m c (Proc.devRef .tc (Pipeline.arrRef (Pipeline.pin (pcfgs (F := F)) adm 0).spec w)) := fun w => by
  match w with
  | ⟨0, _⟩ => exact ((dat0 m c).arrAt_in 0 rfl _).trans (V₂_other m c (Proc.devRef .tc main_v9) (by decide)).symm
  | ⟨1, _⟩ => exact ((dat0 m c).arrAt_in 1 rfl _).trans (V₂_other m c (Proc.devRef .tc main_v12) (by decide)).symm
  | ⟨2, _⟩ => exact ((dat0 m c).arrAt_in 2 rfl _).trans (V₂_other m c (Proc.devRef .tc main_v15) (by decide)).symm
  | ⟨3, _⟩ => exact (arr_out m c).trans (V₂_out m c).symm

theorem rest_same (c : Dev nD) (b : DevRef τ sig) (hb : b ∈ restBufs \ ∅) : V₂ m c b = V₁ m c b :=
  V₂_other m c b (fun e => by
    subst e
    exact absurd hb (by decide))

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ restBufs (Finset.empty_subset _) kit rfl (fun c => (body_obligation m c).loose)
    (fun _ => 0) owed₀ (fun c => (owed_first m c).trans (zero_add _).symm) (owed_last m) (fun _ => rfl) (fun c w => by unfold Dat.share; split <;> rfl)
    (V₁ m) (V₂ m) (rest_same m)
    (Tk (data m)) (fun c => semVal (barCell c) 0) (Xk (data m)) (fun c => semVal (barCell c) 0) (hopen (data m)) (hin m) (hout m)
    (fun c => by iintro H; imodintro; iexact H)
    (fun _ => 0)
    ⟨fun c w s => by rw [L_tc]; exact Finset.mem_singleton_self _, fun c w s => stage_level w s c, fun c t g i h => cut_owed m c t g i h⟩
    (fun _ => iprop(emp))
    (fun _ w => rfl) (arr_after m)

end Cert.Proof.Ring

end
-- ==== Proof.Fund.lean ====
/-
The credits and the tokens the devices start with.
-/
module

public import proofs.«01_k».proof.Proof.Region
public import Idealize.ShloMosaic.Lib.Pipeline.Value
import all proofs.«01_k».proof.Proof.Hops
import all proofs.«01_k».proof.Proof.Values
import all proofs.«01_k».proof.Proof.Protocol
import all proofs.«01_k».proof.Proof.Steps
import all proofs.«01_k».proof.Proof.Local
import all proofs.«01_k».proof.Proof.Hop
import all proofs.«01_k».proof.Proof.Body
import all proofs.«01_k».proof.Proof.Slots
import all proofs.«01_k».proof.Proof.Cells
import all proofs.«01_k».proof.Proof.Region

@[expose] public section

noncomputable section

namespace Cert.Proof.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Telling the cells apart -/

theorem cell_inj {f f' : Fin 6} {h h' : Fin 8} {c c' : Dev nD} (e : cell f h c = cell f' h' c') : f = f' ∧ h = h' ∧ c = c' := by
  have k := congrArg (fun g : GSem nD τ sig => kd g.2) e
  simp only [kd_slot] at k
  injection k with kf kh
  exact ⟨kf, kh, congrArg (fun g : GSem nD τ sig => g.1.1) e⟩
theorem cell_ne_bar {f : Fin 6} {h : Fin 8} {c c' : Dev nD} : cell f h c ≠ barCell c' := fun e => by
  have k := congrArg (fun g : GSem nD τ sig => kd g.2) e
  simp only [kd_slot, kd_bar] at k
  cases k
theorem cell_ne_fr {f : Fin 6} {h : Fin 8} {c c' : Dev nD} : cell f h c ≠ frCell c' := fun e => by
  have k := congrArg (fun g : GSem nD τ sig => kd g.2) e
  simp only [kd_slot, kd_fr] at k
  cases k
theorem fr_ne_bar {c c' : Dev nD} : frCell c ≠ barCell c' := fun e => by
  have k := congrArg (fun g : GSem nD τ sig => kd g.2) e
  simp only [kd_bar, kd_fr] at k
  cases k

/-- A device's semaphores: the barrier, and those of its own. -/
theorem kd_osem (k : KS) : kd (osem k) = match k with | .inl fh => .slot fh.1 fh.2 | .inr false => .fs | .inr true => .fr := by
  rcases k with ⟨f, h⟩ | b
  · exact kd_slot f h
  · cases b
    · exact kd_fs
    · exact kd_fr
theorem osem_inj : Function.Injective osem := fun a b e => by
  have k := congrArg kd e
  rw [kd_osem, kd_osem] at k
  rcases a with ⟨f, h⟩ | a <;> rcases b with ⟨f', h'⟩ | b
  · injection k with kf kh
    exact congrArg Sum.inl (Prod.ext kf kh)
  · cases b <;> cases k
  · cases a <;> cases k
  · cases a <;> cases b <;> first | rfl | cases k
theorem osem_ne_bar (k : KS) : osem k ≠ .reg barrier0 := fun e => by
  have h := congrArg kd e
  rw [kd_osem, kd_bar] at h
  rcases k with ⟨f, h'⟩ | b
  · cases h
  · cases b <;> cases h

/-! ## The credit every device starts with -/

theorem tally_at (g g' : GSem nD τ sig) (n : ℕ) (p : Prop) [Decidable p] (h : g' = g ↔ p) :
    (tallyAt g () n : CellTallies nD τ sig Unit) g' () = if p then n else 0 := by
  rw [tallyAt_apply]
  by_cases hp : p
  · rw [if_pos ⟨h.mpr hp, rfl⟩, if_pos hp]
  · rw [if_neg fun e => hp (h.mp e.1), if_neg hp]
theorem tally_off {g g' : GSem nD τ sig} (n : ℕ) (h : g' ≠ g) : (tallyAt g () n : CellTallies nD τ sig Unit) g' () = 0 := by
  rw [tallyAt_apply, if_neg fun e => h e.1]

theorem sum_at (s : Finset (Fin 7)) (f : Fin 7 → CellTallies nD τ sig Unit) (g : GSem nD τ sig) : (∑ j ∈ s, f j) g () = ∑ j ∈ s, f j g () := by
  rw [Finset.sum_apply, Finsupp.finsetSum_apply]

theorem nxt_eq {d c : Dev nD} : c = nxt d ↔ d = prv c := ⟨fun e => by rw [e, prv_nxt], fun e => by rw [e, nxt_prv]⟩
theorem prv_eq {d c : Dev nD} : c = prv d ↔ d = nxt c := ⟨fun e => by rw [e, nxt_prv], fun e => by rw [e, prv_nxt]⟩

/-- What device `d` owes cell `g`, term by term. -/
theorem owed_at (d : Dev nD) (g : GSem nD τ sig) :
    owed₀ d g () = (finOwed d g () + ∑ j ∈ Finset.Ici (0 : Fin 7), hopOwed d j g ()) + (tallyAt (barCell (nxt d)) () 1 : CellTallies nD τ sig Unit) g ()
      + (tallyAt (barCell (prv d)) () 1 : CellTallies nD τ sig Unit) g () := by
  unfold owed₀ owedI
  simp only [Pi.add_apply, Finsupp.add_apply, sum_at]

theorem owed_bar (d c : Dev nD) : owed₀ d (barCell c) () = (if d = prv c then 1 else 0) + (if d = nxt c then 1 else 0) := by
  have h0 : ∀ j : Fin 7, hopOwed d j (barCell c) () = 0 := fun j => by
    unfold hopOwed
    simp only [Pi.add_apply, Finsupp.add_apply]
    rw [tally_off _ cell_ne_bar.symm, tally_off _ cell_ne_bar.symm, tally_off _ cell_ne_bar.symm]
  rw [owed_at, Finset.sum_congr rfl fun j _ => h0 j, Finset.sum_const_zero]
  unfold finOwed
  rw [tally_off _ fr_ne_bar.symm, tally_at (barCell (nxt d)) (barCell c) 1 (d = prv c) ⟨fun e => nxt_eq.mp (congrArg (fun g : GSem nD τ sig => g.1.1) e), fun e => by rw [nxt_eq.mpr e]⟩,
    tally_at (barCell (prv d)) (barCell c) 1 (d = nxt c) ⟨fun e => prv_eq.mp (congrArg (fun g : GSem nD τ sig => g.1.1) e), fun e => by rw [prv_eq.mpr e]⟩]
  rw [add_zero, zero_add]
theorem owed_fr (d c : Dev nD) : owed₀ d (frCell c) () = if d = prv c then Nf else 0 := by
  have h0 : ∀ j : Fin 7, hopOwed d j (frCell c) () = 0 := fun j => by
    unfold hopOwed
    simp only [Pi.add_apply, Finsupp.add_apply]
    rw [tally_off _ cell_ne_fr.symm, tally_off _ cell_ne_fr.symm, tally_off _ cell_ne_fr.symm]
  rw [owed_at, Finset.sum_congr rfl fun j _ => h0 j, Finset.sum_const_zero, tally_off _ fr_ne_bar, tally_off _ fr_ne_bar]
  unfold finOwed
  rw [tally_at (frCell (nxt d)) (frCell c) Nf (d = prv c) ⟨fun e => nxt_eq.mp (congrArg (fun g : GSem nD τ sig => g.1.1) e), fun e => by rw [nxt_eq.mpr e]⟩]
  rw [add_zero, add_zero, add_zero]
theorem slot_at (a f : Fin 6) (n : ℕ) (j h : Fin 7) (d c : Dev nD) :
    (tallyAt (cell a j.succ (nxt d)) () n : CellTallies nD τ sig Unit) (cell f h.succ c) () = if j = h then (if f = a ∧ d = prv c then n else 0) else 0 := by
  rw [tally_at _ _ n (j = h ∧ f = a ∧ d = prv c) ⟨fun e => by
    obtain ⟨h1, h2, h3⟩ := cell_inj e
    exact ⟨(Fin.succ_injective _ h2).symm, h1, nxt_eq.mp h3⟩, fun ⟨h1, h2, h3⟩ => by rw [h1, h2, nxt_eq.mpr h3]⟩]
  by_cases hj : j = h <;> simp [hj]
theorem owed_slot (f : Fin 6) (hf : f = 1 ∨ f = 3 ∨ f = 5) (h : Fin 7) (d c : Dev nD) : owed₀ d (cell f h.succ c) () = if d = prv c then amt f else 0 := by
  rw [owed_at, tally_off _ cell_ne_bar, tally_off _ cell_ne_bar]
  unfold finOwed hopOwed
  rw [tally_off _ cell_ne_fr]
  simp only [Pi.add_apply, Finsupp.add_apply]
  rw [Finset.sum_add_distrib, Finset.sum_add_distrib, Finset.sum_congr rfl fun j _ => slot_at 5 f Nm j h d c,
    Finset.sum_congr rfl fun j _ => slot_at 3 f No j h d c, Finset.sum_congr rfl fun j _ => slot_at 1 f Nq j h d c]
  simp only [Finset.sum_ite_eq', Finset.mem_Ici, Fin.zero_le, if_true]
  rcases hf with rfl | rfl | rfl <;> simp [amt]

theorem credit_of (g : GSem nD τ sig) (n : ℕ) (h : ∑ d : Dev nD, owed₀ d g () = n) :
    tallyOn g (launchCredit (Pipeline.owing owed₀) 0 g) = (tallyAt g () n : CellTallies nD τ sig Unit) := by
  unfold tallyAt; refine congrArg _ (Finsupp.ext fun u => ?_); cases u
  rw [Pipeline.launchCredit_owing, Finsupp.single_eq_same, h]
theorem sum_one (e : Dev nD) (n : ℕ) : (∑ d : Dev nD, if d = e then n else 0) = n := by
  rw [Finset.sum_ite_eq' Finset.univ e fun _ => n, if_pos (Finset.mem_univ _)]
theorem credit_bar (c : Dev nD) : tallyOn (barCell c) (launchCredit (Pipeline.owing owed₀) 0 (barCell c)) = (tallyAt (barCell c) () 2 : CellTallies nD τ sig Unit) :=
  credit_of _ _ (by rw [Finset.sum_congr rfl fun d _ => owed_bar d c, Finset.sum_add_distrib, sum_one, sum_one])
theorem credit_fr (c : Dev nD) : tallyOn (frCell c) (launchCredit (Pipeline.owing owed₀) 0 (frCell c)) = (tallyAt (frCell c) () Nf : CellTallies nD τ sig Unit) :=
  credit_of _ _ (by rw [Finset.sum_congr rfl fun d _ => owed_fr d c, sum_one])
theorem credit_slot (f : Fin 6) (hf : f = 1 ∨ f = 3 ∨ f = 5) (h : Fin 7) (c : Dev nD) :
    tallyOn (cell f h.succ c) (launchCredit (Pipeline.owing owed₀) 0 (cell f h.succ c)) = (tallyAt (cell f h.succ c) () (amt f) : CellTallies nD τ sig Unit) :=
  credit_of _ _ (by rw [Finset.sum_congr rfl fun d _ => owed_slot f hf h d c, sum_one])

/-- The credits of device `c`, those its waits use. -/
theorem creds (c : Dev nD) : (Pipeline.launchCred owed₀ c : sProp (𝕄R F))
    ⊢ iprop(cred (tallyAt (barCell c) () 2) ∗ (bigSep Finset.univ fun h : Fin 7 => rcvCred c h.succ) ∗ cred (tallyAt (frCell c) () Nf)) := by
  unfold Pipeline.launchCred
  rw [bigSep_univ_at _ (SemLoc.reg barrier0), credit_bar]
  refine sep_mono_right ?_
  have hs : Finset.univ.map ⟨osem, osem_inj⟩ ⊆ Finset.univ.erase (SemLoc.reg barrier0 : SemLoc sig) := fun s hs => by
    obtain ⟨k, -, rfl⟩ := Finset.mem_map.mp hs
    exact Finset.mem_erase.mpr ⟨osem_ne_bar k, Finset.mem_univ _⟩
  refine (BI.bigSep_subset hs).trans ?_
  rw [BI.bigSep_map]
  refine (Entails.of_eq (cells_eq fun k : KS => (cred (tallyOn (kcell k c) (launchCredit (Pipeline.owing owed₀) 0 (kcell k c))) : sProp (𝕄R F)))).trans ?_
  rw [show (tallyOn (kcell (.inr true) c) (launchCredit (Pipeline.owing owed₀) 0 (kcell (.inr true) c)) : CellTallies nD τ sig Unit) = _ from credit_fr c]
  have e : (bigSep Finset.univ fun h : Fin 7 => tri (fun k : KS => (cred (tallyOn (kcell k c) (launchCredit (Pipeline.owing owed₀) 0 (kcell k c))) : sProp (𝕄R F))) 1 3 5 h.succ)
      ⊢ (bigSep Finset.univ fun h : Fin 7 => rcvCred c h.succ : sProp (𝕄R F)) := bigSep_mono fun h _ => by
    unfold tri rcvCred
    beta_reduce
    rw [show (tallyOn (kcell (.inl (1, h.succ)) c) (launchCredit (Pipeline.owing owed₀) 0 (kcell (.inl (1, h.succ)) c)) : CellTallies nD τ sig Unit) = _ from credit_slot 1 (by decide) h c,
      show (tallyOn (kcell (.inl (3, h.succ)) c) (launchCredit (Pipeline.owing owed₀) 0 (kcell (.inl (3, h.succ)) c)) : CellTallies nD τ sig Unit) = _ from credit_slot 3 (by decide) h c,
      show (tallyOn (kcell (.inl (5, h.succ)) c) (launchCredit (Pipeline.owing owed₀) 0 (kcell (.inl (5, h.succ)) c)) : CellTallies nD τ sig Unit) = _ from credit_slot 5 (by decide) h c]
    exact BI.Entails.refl _
  iintro ⟨-, Hr, -, -, -, Hf⟩
  isplitl [Hr]; · iapply e; iexact Hr
  iexact Hf

/-! ## The cells and the tokens of the launch -/

def barEmb : Dev nD ↪ GSem nD τ sig := ⟨fun c => barCell c, fun _ _ h => congrArg (fun g : GSem nD τ sig => g.1.1) h⟩
def ownEmb : Dev nD × KS ↪ GSem nD τ sig :=
  ⟨fun ck => kcell ck.2 ck.1, fun _ _ h => Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb
theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- A device's tokens: two of its barrier cell, one of each cell of its own. -/
abbrev tokOf : Bool ⊕ KS → SemLoc sig × Bool
  | .inl b => (.reg barrier0, b)
  | .inr k => (osem k, true)
theorem tokOf_inj : Function.Injective tokOf := fun a b e => by
  rcases a with a | a <;> rcases b with b | b
  · exact congrArg Sum.inl (congrArg Prod.snd e)
  · exact absurd (congrArg Prod.fst e).symm (osem_ne_bar b)
  · exact absurd (congrArg Prod.fst e) (osem_ne_bar a)
  · exact congrArg Sum.inr (osem_inj (congrArg Prod.fst e))
def ringToks : Finset (GSem nD τ sig × ℕ × Bool) :=
  Finset.univ.map ⟨fun ck : Dev nD × (Bool ⊕ KS) => (((ck.1 : Thread nD τ), (tokOf ck.2).1), 0, (tokOf ck.2).2), fun _ _ h =>
    Prod.ext (congrArg (fun t : GSem nD τ sig × ℕ × Bool => t.1.1.1) h)
      (tokOf_inj (Prod.ext (congrArg (fun t : GSem nD τ sig × ℕ × Bool => t.1.2) h) (congrArg (fun t : GSem nD τ sig × ℕ × Bool => t.2.2) h)))⟩

/-- The tokens of device `c`'s cells. -/
abbrev tk (c : Dev nD) (k : KS) : sProp (𝕄R F) := dutyTok ER (kcell k c) 0 true
/-- The tokens device `c` pays with. -/
def dealt (c : Dev nD) : sProp (𝕄R F) :=
  iprop(dutyTok ER (barCell (prv c)) 0 true ∗ dutyTok ER (barCell (nxt c)) 0 false ∗ (bigSep Finset.univ fun h : Fin 7 => toks c h)
    ∗ (dutyTok ER (fsCell c) 0 true ∗ dutyTok ER (frCell (nxt c)) 0 true))

theorem toks_eq : bigSep ringToks (fun x => (dutyTok ER x.1 x.2.1 x.2.2 : sProp (𝕄R F)))
    = bigSep Finset.univ fun c : Dev nD => iprop((dutyTok ER (barCell c) 0 false ∗ dutyTok ER (barCell c) 0 true) ∗ bigSep Finset.univ fun k : KS => tk c k) := by
  unfold ringToks
  rw [BI.bigSep_map, bigSep_univ_prod]
  refine bigSep_congr fun c _ => ?_
  refine (BI.bigSep_univ_sum _).trans ?_
  rw [two]
  rfl

theorem tokens_by_use (c : Dev nD) : iprop((dutyTok ER (barCell c) 0 false ∗ dutyTok ER (barCell c) 0 true) ∗ bigSep Finset.univ fun k : KS => tk c k)
    ⊢ (iprop(dutyTok ER (barCell c) 0 false ∗ dutyTok ER (barCell c) 0 true
        ∗ (bigSep Finset.univ fun h : Fin 7 => tri (tk c) 0 2 4 h.castSucc) ∗ (bigSep Finset.univ fun h : Fin 7 => tri (tk c) 1 3 5 h.succ)
        ∗ dutyTok ER (fsCell c) 0 true ∗ dutyTok ER (frCell c) 0 true) : sProp (𝕄R F)) := by
  rw [cells_eq]
  iintro ⟨⟨Hf, Ht⟩, Hs, Hr, -, -, H1, H2⟩
  isplitl [Hf]; · iexact Hf
  isplitl [Ht]; · iexact Ht
  isplitl [Hs]; · iexact Hs
  isplitl [Hr]; · iexact Hr
  isplitl [H1] <;> iassumption

/-- Every token goes to the device that pays with it. -/
theorem deal : (bigSep Finset.univ fun c : Dev nD => iprop((dutyTok ER (barCell c) 0 false ∗ dutyTok ER (barCell c) 0 true) ∗ bigSep Finset.univ fun k : KS => tk c k))
    ⊢ (bigSep Finset.univ fun c : Dev nD => dealt c : sProp (𝕄R F)) := by
  refine (bigSep_mono fun c _ => tokens_by_use c).trans ?_
  rw [bigSep_sep', bigSep_sep', bigSep_sep', bigSep_sep', bigSep_sep',
    bigSep_univ_equiv ring (fun c : Dev nD => (dutyTok ER (barCell c) 0 false : sProp (𝕄R F))),
    bigSep_univ_equiv ring.symm (fun c : Dev nD => (dutyTok ER (barCell c) 0 true : sProp (𝕄R F))),
    bigSep_univ_equiv ring (fun c : Dev nD => (bigSep Finset.univ fun h : Fin 7 => tri (tk c) 1 3 5 h.succ : sProp (𝕄R F))),
    bigSep_univ_equiv ring (fun c : Dev nD => (dutyTok ER (frCell c) 0 true : sProp (𝕄R F))),
    ← bigSep_sep', ← bigSep_sep', ← bigSep_sep', ← bigSep_sep', ← bigSep_sep']
  refine bigSep_mono fun c _ => ?_
  have e : iprop((bigSep Finset.univ fun h : Fin 7 => tri (tk c) 0 2 4 h.castSucc) ∗ bigSep Finset.univ fun h : Fin 7 => tri (tk (nxt c)) 1 3 5 h.succ)
      ⊢ (bigSep Finset.univ fun h : Fin 7 => toks c h : sProp (𝕄R F)) := by
    rw [← bigSep_sep']
    refine bigSep_mono fun h _ => ?_
    show (iprop(tri (tk c) 0 2 4 h.castSucc ∗ tri (tk (nxt c)) 1 3 5 h.succ) : sProp (𝕄R F)) ⊢ toks c h
    unfold tri toks tk
    iintro ⟨⟨A, B, C⟩, A', B', C'⟩
    isplitl [A A']; · isplitl [A] <;> iassumption
    isplitl [B B']; · isplitl [B] <;> iassumption
    isplitl [C] <;> iassumption
  unfold dealt
  show (iprop(dutyTok ER (barCell (nxt c)) 0 false ∗ dutyTok ER (barCell (prv c)) 0 true
        ∗ (bigSep Finset.univ fun h : Fin 7 => tri (tk c) 0 2 4 h.castSucc) ∗ (bigSep Finset.univ fun h : Fin 7 => tri (tk (nxt c)) 1 3 5 h.succ)
        ∗ dutyTok ER (fsCell c) 0 true ∗ dutyTok ER (frCell (nxt c)) 0 true) : sProp (𝕄R F)) ⊢ _
  iintro ⟨Hf, Ht, Hs, Hr, H1, H2⟩
  isplitl [Ht]; · iexact Ht
  isplitl [Hf]; · iexact Hf
  isplitl [Hs Hr]
  · iapply e; isplitl [Hs] <;> iassumption
  isplitl [H1] <;> iassumption

end Cert.Proof.Ring

end
-- ==== Proof.Run.lean ====
/-
The whole program run on the eight devices.
-/
module

public import proofs.«01_k».proof.Proof.Fund
public import proofs.«01_k».proof.Proof.Gen.KernelIdeal.Frame
public import Idealize.ShloMosaic.Harness.Basic
public import Idealize.ShloMosaic.Lib.Pipeline.Value
import all proofs.«01_k».proof.Proof.Hops
import all proofs.«01_k».proof.Proof.Values
import all proofs.«01_k».proof.Proof.Protocol
import all proofs.«01_k».proof.Proof.Steps
import all proofs.«01_k».proof.Proof.Local
import all proofs.«01_k».proof.Proof.Hop
import all proofs.«01_k».proof.Proof.Body
import all proofs.«01_k».proof.Proof.Slots
import all proofs.«01_k».proof.Proof.Cells
import all proofs.«01_k».proof.Proof.Region
import all proofs.«01_k».proof.Proof.Fund

@[expose] public section

noncomputable section

namespace Cert.Proof.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-! ## The launch -/

/-- The ghost state at launch: the staging cells' and the protocol's. -/
def u₀ : UU :=
  (initOf (Pipeline.cells (Pipeline.pin (pcfgs (F := F)) adm) cellOf_inj) (Pipeline.launchToks (Pipeline.pin (pcfgs (F := F)) adm) cellOf_inj),
    launchOf barCells ownCells ringToks)

/-- Everything on one device. -/
def onDev (c₀ : Dev nD) (X : sProp (𝕄R F)) (c : Dev nD) : sProp (𝕄R F) := if c = c₀ then X else iprop(emp)
theorem bigSep_onDev (c₀ : Dev nD) (X : sProp (𝕄R F)) : bigSep Finset.univ (onDev c₀ X) = X := by
  rw [bigSep_univ_at _ c₀, bigSep_congr (s := Finset.univ.erase c₀) (Ψ := fun _ => (BI.emp : sProp (𝕄R F)))
      fun c hc => by unfold onDev; rw [if_neg (Finset.ne_of_mem_erase hc)]; rfl, BI.bigSep_emp_const]
  unfold onDev; rw [if_pos rfl]
  exact BI.equiv_iff.mp sep_emp
def G : Dev nD → sProp (𝕄R F) := onDev 0 (BI.own (ER (launchOf barCells ownCells ringToks)))

/-- What a device carries to the region beside its buffers. -/
def R (c : Dev nD) : sProp (𝕄R F) := iprop(Tk (data m) c ∗ (∃ r, prngReg c r) ∗ ∃ W, owes (c : Thread nD τ) (owed₀ c) W)
abbrev T₀ (c : Dev nD) : sProp (𝕄R F) := iprop(StableHlo.held (c : Thread nD τ) (Pipeline.ucRefs τ sig) (V₀ m c) ∗ R m c)
/-- The protocol's part of it. -/
def linear (c : Dev nD) : sProp (𝕄R F) := iprop(dealt c ∗ atPos ER (barCell c) 0 ∅ 0 ∗ bigSep Finset.univ fun k : KS => openTok ER (kcell k c))
/-- The rest of it. -/
def bundle (c : Dev nD) : sProp (𝕄R F) :=
  iprop(StableHlo.held (c : Thread nD τ) (Pipeline.ucRefs τ sig) (V₀ m c)
    ∗ (cred (tallyAt (barCell c) () 2) ∗ (bigSep Finset.univ fun h : Fin 7 => rcvCred c h.succ) ∗ cred (tallyAt (frCell c) () Nf))
    ∗ owes (c : Thread nD τ) (owed₀ c) ∅ ∗ ∃ r, prngReg c r)

theorem T₀_intro (κ : GSem nD τ sig → ℕ) (c : Dev nD) : iprop(recs (data m) κ ∗ (linear c ∗ bundle m c)) ⊢ T₀ m c := by
  unfold bundle linear dealt T₀ R Tk held₀
  iintro ⟨#HR, ⟨⟨Ht, Hf, Hk, Hff⟩, Ha, Ho⟩, Hh, ⟨Hb, Hr, Hfc⟩, HO, Hp⟩
  isplitl [Hh]; · iexact Hh
  isplitr [HO Hp]
  · iexists κ
    isplitr; · iexact HR
    isplitr [Ho]
    · isplitl [Ht Hf Hb Ha]
      · isplitl [Ht]; · iexact Ht
        isplitl [Hf]; · iexact Hf
        isplitl [Hb] <;> iassumption
      isplitl [Hk]; · iexact Hk
      isplitl [Hr]; · iexact Hr
      isplitl [Hff]; · iexact Hff
      iexact Hfc
    iexact Ho
  isplitl [Hp]; · iexact Hp
  iexists ∅; iexact HO

theorem unscopedSems0_eq (c : Dev nD) : (unscopedSems0 c : sProp (𝕄R F)) = semVal (barCell c) 0 := by
  unfold unscopedSems0
  rw [show (Finset.univ.filter fun sm : SemLoc sig => ¬ sm.isScoped .tc) = {SemLoc.reg barrier0} from by decide, BI.bigSep_singleton]

theorem core_init (c : Dev nD) : iprop(unscopedBufs c (fun b => m ((c : Thread nD τ).loc b)) ∗ unscopedSems0 c
      ∗ owes (c : Thread nD τ) (owed₀ c) ∅ ∗ Pipeline.launchCred owed₀ c ∗ prngReg c (ρ c) ∗ G c)
    ⊢ (iprop(bundle m c ∗ (semVal (barCell c) 0 ∗ G c)) : sProp (𝕄R F)) := by
  rw [show unscopedBufs c (fun b => m ((c : Thread nD τ).loc b)) = StableHlo.held (c : Thread nD τ) (Pipeline.ucRefs τ sig) (V₀ m c) from Pipeline.unscopedBufs_held c (V₀ m c),
    unscopedSems0_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem invs_eq (κ : GSem nD τ sig → ℕ) : (bigSep (barCells ∪ ownCells) fun g => (cellInv ER (sched (data m)) (κ g) g : sProp (𝕄R F))) = Inv (data m) κ := by
  rw [BI.bigSep_union disjoint_cells, BI.bigSep_map, BI.bigSep_map]
  rfl

theorem init :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c)) ∗ levAts L lv)
      ⊢ (|={Set.univ}=> bigSep Finset.univ (T₀ m) : sProp (𝕄R F)) := by
  have hv : bigSep Finset.univ (fun c : Dev nD => (semVal (barCell c) 0 : sProp (𝕄R F))) ⊢ bigSep barCells (fun g => (semVal g 0 : sProp (𝕄R F))) :=
    Entails.of_eq (BI.bigSep_map (s := Finset.univ) barEmb (Φ := fun g : GSem nD τ sig => (semVal g 0 : sProp (𝕄R F)))).symm
  have hat : bigSep barCells (fun g => (atPos ER g 0 ∅ 0 : sProp (𝕄R F))) ⊢ bigSep Finset.univ (fun c : Dev nD => (atPos ER (barCell c) 0 ∅ 0 : sProp (𝕄R F))) :=
    Entails.of_eq (BI.bigSep_map (s := Finset.univ) barEmb (Φ := fun g : GSem nD τ sig => (atPos ER g 0 ∅ 0 : sProp (𝕄R F))))
  have hre : bigSep barCells (fun g => (reached ER g 0 : sProp (𝕄R F))) ⊢ bigSep Finset.univ (fun c : Dev nD => (reached ER (barCell c) 0 : sProp (𝕄R F))) :=
    Entails.of_eq (BI.bigSep_map (s := Finset.univ) barEmb (Φ := fun g : GSem nD τ sig => (reached ER g 0 : sProp (𝕄R F))))
  have hop : bigSep ownCells (fun g => (openTok ER g : sProp (𝕄R F)))
      ⊢ bigSep Finset.univ (fun c : Dev nD => (bigSep Finset.univ fun k : KS => openTok ER (kcell k c) : sProp (𝕄R F))) :=
    Entails.of_eq ((BI.bigSep_map (s := Finset.univ) ownEmb (Φ := fun g : GSem nD τ sig => (openTok ER g : sProp (𝕄R F)))).trans (bigSep_univ_prod _))
  iintro ⟨H, -⟩
  ihave H' := (show (bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c))
      ⊢ (bigSep Finset.univ fun c : Dev nD => iprop(bundle m c ∗ (semVal (barCell c) 0 ∗ G c)) : sProp (𝕄R F)) from bigSep_mono fun c _ => core_init m ρ c) $$ H
  ihave H2 := (Entails.of_eq (bigSep_sep' Finset.univ _ _)) $$ H'; icases H2 with ⟨HB, H3⟩
  ihave H4 := (Entails.of_eq (bigSep_sep' Finset.univ _ _)) $$ H3; icases H4 with ⟨Hv, HG⟩
  ihave Hu := (show bigSep Finset.univ (G (F := F)) ⊢ BI.own (ER (launchOf barCells ownCells ringToks)) from
    Entails.of_eq (bigSep_onDev (F := F) 0 (BI.own (ER (launchOf barCells ownCells ringToks))))) $$ HG
  imod (Rounds.fund_launch ER (sched (data m)) disjoint_cells (fun g _ h => h) ringToks) $$ [Hv Hu] with ⟨%κ, -, #Hinv, #Hr, Hat, Hopen, Htok⟩
  · isplitl [Hv]
    · iapply hv $$ Hv
    · iexact Hu
  imodintro
  iapply (bigSep_with_persistent (R := recs (data m) κ) (Φ := fun c => iprop(linear c ∗ bundle m c)) fun c _ => T₀_intro m κ c)
  isplitr
  · unfold recs
    isplitr; · iapply (Entails.of_eq (invs_eq m κ)); iexact Hinv
    iapply hre; iexact Hr
  iapply (Entails.of_eq (bigSep_sep' Finset.univ _ _).symm)
  isplitr [HB]
  · unfold linear
    iapply (Entails.of_eq (bigSep_sep' Finset.univ _ _).symm)
    isplitl [Htok]
    · iapply (deal (F := F))
      iapply (Entails.of_eq (toks_eq (F := F))) $$ Htok
    iapply (Entails.of_eq (bigSep_sep' Finset.univ _ _).symm); isplitl [Hat]; · iapply hat $$ Hat
    iapply hop $$ Hopen
  · iexact HB

/-! ## The segments -/

theorem sub_of_forall {ops : List (HloOp τ sig (Elt F))} (h : ops.Forall fun op => op.bufs ⊆ StableHlo.tcRefs τ sig) : ∀ op ∈ ops, op.bufs ⊆ Pipeline.ucRefs τ sig :=
  fun op ho => Pipeline.sub_ucRefs op (List.forall_iff_forall_mem.mp h op ho)

def seg0 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0 (sub_of_forall hostOps0_sub) (List.forall_iff_forall_mem.mp hostOps0_fresh) (V₀ m) (R m)
/-- What is left of the protocol after the region. -/
def R' (c : Dev nD) : sProp (𝕄R F) := iprop(semVal (barCell c) 0 ∗ ∃ W, owes (c : Thread nD τ) (0 : CellTallies nD τ sig Unit) W)
def seg1 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps1 (sub_of_forall hostOps1_sub) (List.forall_iff_forall_mem.mp hostOps1_fresh) (V₂ m) R'

/-- What the buffers hold at the end. -/
abbrev V₃ (c : Dev nD) : Valuation τ sig (Elt F) := StableHlo.after hostOps1 (V₂ m c)

theorem held_arrays (c : Dev nD) (W : Valuation τ sig (Elt F)) : (StableHlo.held (c : Thread nD τ) (Pipeline.ucRefs τ sig) W : sProp (𝕄R F))
    = iprop(StableHlo.held (c : Thread nD τ) (Pipeline.arrRefs (τ := τ) spec0) W ∗ StableHlo.held (c : Thread nD τ) restBufs W) :=
  StableHlo.held_sub_split (c : Thread nD τ) (Pipeline.arrRefs_sub_ucRefs spec0 winFacts0.arr_unscoped) W

theorem reg0_pre (c : Dev nD) : iprop(StableHlo.held (c : Thread nD τ) (Pipeline.ucRefs τ sig) (V₁ m c) ∗ R m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) restBufs (V₁ m c) ∗ emp) ∗ Tk (data m) c ∗ ∃ Wd, owes (c : Thread nD τ) (0 + owed₀ c) Wd)
  rw [held_arrays, zero_add]
  unfold R
  iintro ⟨⟨Ha, Hh⟩, HK, Hp, HO⟩
  isplitl [Ha]; · iexact Ha
  isplitl [Hp]; · iexact Hp
  isplitl [Hh]
  · isplitl [Hh]; · iexact Hh
    iempintro
  isplitl [HK] <;> iassumption

theorem reg0_post (c : Dev nD) : (reg0 m).post c ⊢ iprop(StableHlo.held (c : Thread nD τ) (Pipeline.ucRefs τ sig) (V₂ m c) ∗ R' c) := by
  show iprop(StableHlo.held (c.tc : Thread nD τ) (Pipeline.arrRefs (τ := τ) spec0) (V₂ m c) ∗ (∃ r, prngReg c r)
    ∗ (StableHlo.held (c.tc : Thread nD τ) restBufs (V₂ m c) ∗ emp) ∗ semVal (barCell c) 0 ∗ ∃ Wd, owes (c : Thread nD τ) (0 : CellTallies nD τ sig Unit) Wd) ⊢ _
  rw [held_arrays]
  unfold R'
  iintro ⟨Ha, -, ⟨Hh, -⟩, Hb, HO⟩
  isplitl [Ha Hh]; · isplitl [Ha] <;> iassumption
  isplitl [Hb] <;> iassumption

def segs : List (Pipeline.Seg (pcfgs (F := F)) adm (pdats m) () defs₀ 𝒱₀ L lv) := [.host (seg0 m), .region (reg0 m), .host (seg1 m)]

/-! ## The end -/

/-- The program's arguments and its result. -/
def argRef : Fin 5 → Ref sig .tc
  | 0 => main_arg0 | 1 => main_arg1 | 2 => main_arg2 | 3 => main_arg3 | 4 => main_arg4

theorem args_kept (c : Dev nD) (i : Fin 5) : V₃ m c (Proc.devRef .tc (argRef i)) = m ((c : Thread nD τ).loc (argRef i)) := by
  show StableHlo.after hostOps1 (V₂ m c) (Proc.devRef .tc (argRef i)) = _
  rw [StableHlo.after_of_forall_not_mem (b := Proc.devRef .tc (argRef i)) _ _ (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne (by revert i; decide))),
    V₂_other m c _ (StableHlo.devRef_ne_of_ne (by revert i; decide))]
  exact StableHlo.after_of_forall_not_mem (b := Proc.devRef .tc (argRef i)) _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by revert i; decide)))

theorem mem_uc (b : Ref sig .tc) (h : (Proc.devRef .tc b : DevRef τ sig).isScoped = false) : (Proc.devRef .tc b : DevRef τ sig) ∈ Pipeline.ucRefs τ sig :=
  Finset.mem_filter.mpr ⟨StableHlo.devRef_mem_tcRefs _, fun h' => Bool.false_ne_true (h.symm.trans h')⟩

theorem held_at (c : Dev nD) (W : Valuation τ sig (Elt F)) (b : Ref sig .tc) (h : (Proc.devRef .tc b : DevRef τ sig).isScoped = false) (s : Phys nD τ sig (Elt F)) :
    iprop(StableHlo.held (c : Thread nD τ) (Pipeline.ucRefs τ sig) W ∗ SI s) ⊢ (iprop(⌜s.mem.mem ((c : Thread nD τ).loc b) = W (Proc.devRef .tc b)⌝) : sProp (𝕄R F)) := by
  iintro ⟨Hh, HSI⟩
  ihave Hb := (show (StableHlo.held (c : Thread nD τ) (Pipeline.ucRefs τ sig) W : sProp (𝕄R F)) ⊢ ((c : Thread nD τ).loc b ↦{fullShare} W (Proc.devRef .tc b)) from
    bigSep_elim (mem_uc b h)) $$ Hh
  icombine HSI Hb gives %hx
  ipureintro
  exact Buf.eq_of_forall_mem_univ hx

theorem unscoped_eq : ∀ sm : SemLoc sig, sm.isScoped .tc = false → sm = .reg barrier0 := by decide

/-- A fact read off a state keeps what it was read from. -/
theorem keep {P : sProp (𝕄R F)} {φ : Prop} (h : P ⊢ (iprop(⌜φ⌝) : sProp (𝕄R F))) : P ⊢ (iprop(⌜φ⌝ ∗ P) : sProp (𝕄R F)) := by
  iintro H
  ihave %hp := h $$ H
  isplitr; · ipureintro; exact hp
  iexact H

/-- What device `c`'s memory says at the end. -/
def Ends (c : Dev nD) (s : MemSt nD τ sig (Elt F)) : Prop :=
  (∀ b : Ref sig .tc, (Proc.devRef .tc b : DevRef τ sig).isScoped = false → s.mem ((c : Thread nD τ).loc b) = V₃ m c (Proc.devRef .tc b)) ∧ s.sem (barCell c) = 0

theorem fin_read (c : Dev nD) (s : Phys nD τ sig (Elt F)) :
    iprop((StableHlo.held (c : Thread nD τ) (Pipeline.ucRefs τ sig) (V₃ m c) ∗ semVal (barCell c) 0) ∗ SI s) ⊢ (iprop(|={Set.univ}=> (⌜Ends m c s.mem⌝ ∗ SI s)) : sProp (𝕄R F)) := by
  have hall : iprop(StableHlo.held (c : Thread nD τ) (Pipeline.ucRefs τ sig) (V₃ m c) ∗ SI s)
      ⊢ (iprop(⌜∀ b : Ref sig .tc, (Proc.devRef .tc b : DevRef τ sig).isScoped = false → s.mem.mem ((c : Thread nD τ).loc b) = V₃ m c (Proc.devRef .tc b)⌝) : sProp (𝕄R F)) := by
    refine BIBase.Entails.trans (Q := iprop(∀ b : Ref sig .tc, ⌜(Proc.devRef .tc b : DevRef τ sig).isScoped = false → s.mem.mem ((c : Thread nD τ).loc b) = V₃ m c (Proc.devRef .tc b)⌝)) ?_ pure_forall.2
    refine forall_intro fun b => ?_
    cases h : (Proc.devRef .tc b : DevRef τ sig).isScoped
    · exact (held_at c (V₃ m c) b h s).trans (Laws.pure_mono fun e _ => e)
    · exact BIClass.pure_intro fun e => by cases e
  iintro ⟨⟨Hh, Hb⟩, HSI⟩
  icombine HSI Hb gives %hb
  ihave H := (keep hall) $$ [Hh HSI]
  · isplitl [Hh] <;> iassumption
  icases H with ⟨%ha, -, HSI⟩
  imodintro
  isplitr
  · ipureintro
    exact ⟨ha, by simpa using hb⟩
  iexact HSI

set_option backward.isDefEq.respectTransparency.types false in
/-- From any memory, with every counter at zero, the program runs to its end on every schedule; every buffer of the program
    then holds what the operations, with the kernel's result in between, leave there, and every counter is at zero again. -/
theorem run_all : θ_run defs (onTc (τ := τ) (main (F := F))) (s₀ m ρ)
    (fun r => (∀ c : Dev nD, ∀ b : Ref sig .tc, (Proc.devRef .tc b : DevRef τ sig).isScoped = false → r.2.mem ((c : Thread nD τ).loc b) = V₃ m c (Proc.devRef .tc b))
      ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (seg1 m) (reg0 m) rfl rfl c]; exact BI.Entails.refl _)
    (by simp only [segs, Pipeline.Seg.pipes_host, Pipeline.Seg.pipes_region, Pipeline.Seg.pipes_nil]; decide)
    (O₀ := owed₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := fun c => iprop(StableHlo.held (c : Thread nD τ) (Pipeline.ucRefs τ sig) (V₃ m c) ∗ semVal (barCell c) 0))
    (hch := by
      refine ⟨fun c => .rfl, fun c => reg0_pre m c, fun c => reg0_post m c, fun c => ?_⟩
      show iprop(StableHlo.held (c : Thread nD τ) (Pipeline.ucRefs τ sig) (V₃ m c) ∗ R' c)
        ⊢ iprop((StableHlo.held (c : Thread nD τ) (Pipeline.ucRefs τ sig) (V₃ m c) ∗ semVal (barCell c) 0) ∗ ∃ W, owes (c : Thread nD τ) (0 : CellTallies nD τ sig Unit) W)
      unfold R'
      iintro ⟨Hh, Hb, HO⟩
      isplitr [HO]
      · isplitl [Hh] <;> iassumption
      · iexact HO)
    (hinit := init m ρ)
    (QY := Ends m)
    (hfin := fin_read m)
    (hQ := fun s h hs => ⟨fun c => (h c).1,
      sem_eq_zero hs fun c sm hsm => by
        obtain rfl := unscoped_eq sm hsm
        exact (h c).2⟩)

end Cert.Proof.Ring

end
-- ==== Proof.Sums.lean ====
/-
The sums that the kernel takes, at the extended reals: each device's two sums over its own keys, index by index.
-/
module

public import proofs.«01_k».proof.Proof.Values
public import Idealize.ShloMosaic.Lib.Pointwise
public import Idealize.ShloMosaic.Lib.Pipeline.ValueKit
import all proofs.«01_k».proof.Proof.Hops
import all proofs.«01_k».proof.Proof.Values

@[expose] public section

set_option maxRecDepth 16384

noncomputable section

namespace Cert.Proof.Ring

open Idealize.ShloMosaic Idealize.SL.Sem Cert.KernelIdeal Cert.KernelIdeal.Gen

/-- The weight of a key for a query: `e` to their product. -/
def wt (q : Vec Ideal S1x8x256x128 .bf16) (k : Vec Ideal S8x1024x128 .bf16) (h : Fin 8) (i : Fin 256) (j : Fin 1024) : EReal :=
  Ideal.exp (∑ d : Fin 128, q (ix4 0 h i d) * k (ix3 h j d))

theorem pay3_apply (q : Vec Ideal S1x8x256x128 .bf16) (k : Vec Ideal S8x1024x128 .bf16) (h : Fin 8) (i : Fin 256) :
    k0_pay3 q k (ix3 0 h i) = ∑ j : Fin 1024, wt q k h i j := by
  pointwise [k0_pay3, k0_pay2, wt]

theorem pay4_apply (q : Vec Ideal S1x8x256x128 .bf16) (k v : Vec Ideal S8x1024x128 .bf16) (h : Fin 8) (i : Fin 256) (d : Fin 128) :
    k0_pay4 q k v (ix3 h i d) = ∑ j : Fin 1024, wt q k h i j * v (ix3 h j d) := by
  pointwise [k0_pay4, k0_pay2, wt]

theorem pay6_apply (q : Vec Ideal S1x8x256x128 .bf16) (k : Vec Ideal S8x1024x128 .bf16) (m : Vec Ideal S1x8x256 .f32)
    (h : Fin 8) (i : Fin 256) :
    k0_pay6 q k m (ix3 0 h i) = m (ix3 0 h i) + ∑ j : Fin 1024, wt q k h i j := by
  pointwise [k0_pay6, k0_pay5, wt]

theorem pay7_apply (q : Vec Ideal S1x8x256x128 .bf16) (k v : Vec Ideal S8x1024x128 .bf16) (o : Vec Ideal S8x256x128 .f32)
    (h : Fin 8) (i : Fin 256) (d : Fin 128) :
    k0_pay7 q k v o (ix3 h i d) = o (ix3 h i d) + ∑ j : Fin 1024, wt q k h i j * v (ix3 h j d) := by
  pointwise [k0_pay7, k0_pay5, wt]

theorem pay1_apply (q : Vec Ideal S8x256x128 .bf16) (h : Fin 8) (i : Fin 256) (d : Fin 128) :
    k0_pay1 q (ix4 0 h i d) = q (ix3 h i d) := by
  pointwise [k0_pay1]

theorem pay8_apply (o : Vec Ideal S8x256x128 .f32) (h : Fin 8) (i : Fin 256) (d : Fin 128) :
    k0_pay8 o (ix4 0 h i d) = o (ix3 h i d) := by
  pointwise [k0_pay8]

theorem pay9_apply (m : Vec Ideal S1x8x256 .f32) (h : Fin 8) (i : Fin 256) :
    k0_pay9 m (ix4 0 0 h i) = m (ix3 0 h i) := by
  pointwise [k0_pay9]

theorem pay19_apply (o : Vec Ideal S1x8x256x128 .f32) (o' : Vec Ideal S8x256x128 .f32) (h : Fin 8) (i : Fin 256) (d : Fin 128) :
    k0_pay19 o o' (ix4 0 h i d) = o (ix4 0 h i d) + o' (ix3 h i d) := by
  pointwise [k0_pay19]

theorem pay18_apply (m : Vec Ideal S1x1x8x256 .f32) (m' : Vec Ideal S1x8x256 .f32) (h : Fin 8) (i : Fin 256) :
    k0_pay18 m m' (ix4 0 0 h i) = m (ix4 0 0 h i) + m' (ix3 0 h i) := by
  pointwise [k0_pay18]

theorem pay75_apply (m : Vec Ideal S1x1x8x256 .f32) (o : Vec Ideal S1x8x256x128 .f32) (h : Fin 8) (i : Fin 256) (d : Fin 128) :
    k0_pay75 m o (ix3 h i d) = Ideal.div (o (ix4 0 h i d)) (m (ix4 0 0 h i)) := by
  pointwise [k0_pay75]

/-! ## The key blocks -/

theorem blk0_apply (f : Vec Ideal S8x4096x128 .bf16) (h : Fin 8) (j : Fin 1024) (d : Fin 128) :
    blk0 f (ix3 h j d) = f (ix3 h ⟨j.val, by omega⟩ d) := by
  refine (show blk0 f (ix3 h j d) = f (rK0.idx (ix3 h j d)) from rfl).trans (congrArg f (funext fun a => Fin.ext ?_))
  rw [Rect.idx_unit_val]
  match a with
  | ⟨0, _⟩ => exact Nat.zero_add _
  | ⟨1, _⟩ => exact Nat.zero_add _
  | ⟨2, _⟩ => exact Nat.zero_add _

theorem blkS_apply (t : Fin k0_t1_loop.trips) (f : Vec Ideal S8x4096x128 .bf16) (h : Fin 8) (j : Fin 1024) (d : Fin 128) :
    blkS t f (ix3 h j d)
      = f (ix3 h ⟨(t.val + 1) * 1024 + j.val, by have := (show t.val < 3 from t.isLt); omega⟩ d) := by
  refine (show blkS t f (ix3 h j d) = f ((rK t).idx (ix3 h j d)) from rfl).trans (congrArg f (funext fun a => Fin.ext ?_))
  rw [Rect.idx_unit_val]
  refine (congrArg (· + _) (congrFun (k0_off1_eq t) a)).trans ?_
  match a with
  | ⟨0, _⟩ => exact Nat.zero_add _
  | ⟨1, _⟩ => show 1024 * t.val + 1024 + j.val = (t.val + 1) * 1024 + j.val; omega
  | ⟨2, _⟩ => exact Nat.zero_add _

/-! ## A device's sums over its own keys -/

/-- The weight of key `J` of a device's 4096 for a query, and 0 past them. -/
def wtN (q : Vec Ideal S1x8x256x128 .bf16) (k : Vec Ideal S8x4096x128 .bf16) (h : Fin 8) (i : Fin 256) (J : ℕ) : EReal :=
  if hJ : J < 4096 then Ideal.exp (∑ d : Fin 128, q (ix4 0 h i d) * k (ix3 h ⟨J, hJ⟩ d)) else 0
/-- The weighted value of key `J` likewise. -/
def wvN (q : Vec Ideal S1x8x256x128 .bf16) (k v : Vec Ideal S8x4096x128 .bf16) (h : Fin 8) (i : Fin 256) (d : Fin 128) (J : ℕ) :
    EReal :=
  if hJ : J < 4096 then wtN q k h i J * v (ix3 h ⟨J, hJ⟩ d) else 0

section
variable (q : Vec Ideal S1x8x256x128 .bf16) (k v : Vec Ideal S8x4096x128 .bf16) (h : Fin 8) (i : Fin 256) (d : Fin 128)

theorem wt_blk0 (j : Fin 1024) : wt q (blk0 k) h i j = wtN q k h i (0 * 1024 + j.val) := by
  rw [wt, wtN, dif_pos (by omega)]
  simp only [blk0_apply, Nat.zero_mul, Nat.zero_add]
theorem wt_blkS (t : Fin k0_t1_loop.trips) (j : Fin 1024) :
    wt q (blkS t k) h i j = wtN q k h i ((t.val + 1) * 1024 + j.val) := by
  rw [wt, wtN, dif_pos (by have := (show t.val < 3 from t.isLt); omega)]
  simp only [blkS_apply]
theorem wv_blk0 (j : Fin 1024) :
    wt q (blk0 k) h i j * blk0 v (ix3 h j d) = wvN q k v h i d (0 * 1024 + j.val) := by
  rw [wvN, dif_pos (by omega), wt_blk0, blk0_apply]
  simp only [Nat.zero_mul, Nat.zero_add]
theorem wv_blkS (t : Fin k0_t1_loop.trips) (j : Fin 1024) :
    wt q (blkS t k) h i j * blkS t v (ix3 h j d) = wvN q k v h i d ((t.val + 1) * 1024 + j.val) := by
  rw [wvN, dif_pos (by have := (show t.val < 3 from t.isLt); omega), wt_blkS, blkS_apply]

/-- After `n` trips the denominator is the sum over the first `n + 1` blocks. -/
theorem denAt_apply : ∀ n, n ≤ 3 →
    denAt q k n (ix3 0 h i) = ∑ t ∈ Finset.range (n + 1), ∑ j : Fin 1024, wtN q k h i (t * 1024 + j.val)
  | 0, _ => by
    rw [denAt, pay3_apply, Finset.sum_range_one]
    exact Finset.sum_congr rfl fun j _ => wt_blk0 q k h i j
  | n + 1, hn => by
    rw [denAt, dif_pos (show n < k0_t1_loop.trips from hn), pay6_apply, denAt_apply n (by omega), Finset.sum_range_succ _ (n + 1)]
    exact congrArg _ (Finset.sum_congr rfl fun j _ => wt_blkS q k h i ⟨n, hn⟩ j)
/-- The numerator likewise. -/
theorem numAt_apply : ∀ n, n ≤ 3 →
    numAt q k v n (ix3 h i d) = ∑ t ∈ Finset.range (n + 1), ∑ j : Fin 1024, wvN q k v h i d (t * 1024 + j.val)
  | 0, _ => by
    rw [numAt, pay4_apply, Finset.sum_range_one]
    exact Finset.sum_congr rfl fun j _ => wv_blk0 q k v h i d j
  | n + 1, hn => by
    rw [numAt, dif_pos (show n < k0_t1_loop.trips from hn), pay7_apply, numAt_apply n (by omega), Finset.sum_range_succ _ (n + 1)]
    exact congrArg _ (Finset.sum_congr rfl fun j _ => wv_blkS q k v h i d ⟨n, hn⟩ j)

/-- Four blocks of 1024 are the 4096 keys. -/
theorem sum_blocks (g : ℕ → EReal) : ∑ t ∈ Finset.range (3 + 1), ∑ j : Fin 1024, g (t * 1024 + j.val) = ∑ J : Fin 4096, g J.val := by
  rw [← Fin.sum_univ_eq_sum_range (fun t => ∑ j : Fin 1024, g (t * 1024 + j.val)) 4]
  exact Fin.sum_univ_univ_mul_add 4 1024 g

end

variable (D : Data Ideal)

theorem den_apply (q : Vec Ideal S1x8x256x128 .bf16) (c : Dev nD) (h : Fin 8) (i : Fin 256) :
    den D q c (ix3 0 h i) = ∑ J : Fin 4096, Ideal.exp (∑ d : Fin 128, q (ix4 0 h i d) * D.k c (ix3 h J d)) := by
  rw [den, show k0_t1_loop.trips = 3 from rfl, denAt_apply _ _ _ _ 3 le_rfl, sum_blocks]
  exact Finset.sum_congr rfl fun J _ => dif_pos J.isLt
theorem num_apply (q : Vec Ideal S1x8x256x128 .bf16) (c : Dev nD) (h : Fin 8) (i : Fin 256) (d : Fin 128) :
    num D q c (ix3 h i d)
      = ∑ J : Fin 4096, Ideal.exp (∑ d : Fin 128, q (ix4 0 h i d) * D.k c (ix3 h J d)) * D.v c (ix3 h J d) := by
  rw [num, show k0_t1_loop.trips = 3 from rfl, numAt_apply _ _ _ _ _ _ 3 le_rfl, sum_blocks]
  exact Finset.sum_congr rfl fun J _ => (dif_pos J.isLt).trans (congrArg (· * _) (dif_pos J.isLt))

/-! ## The sums that travel the ring -/

/-- The device `n` places before `c`. -/
def back : ℕ → Dev nD → Dev nD
  | 0, c => c
  | n + 1, c => back n (prv c)

theorem Qv_back : ∀ n c, Qv D n c = k0_pay1 (D.q (back n c))
  | 0, _ => rfl
  | n + 1, c => Qv_back n (prv c)
theorem Ov_apply (h : Fin 8) (i : Fin 256) (d : Fin 128) : ∀ n c,
    Ov D n c (ix4 0 h i d) = ∑ p ∈ Finset.range (n + 1), num D (k0_pay1 (D.q (back n c))) (back p c) (ix3 h i d)
  | 0, c => by rw [Ov, pay8_apply, Finset.sum_range_one]; rfl
  | n + 1, c => by
    rw [Ov, pay19_apply, Ov_apply h i d n (prv c), Finset.sum_range_succ' _ (n + 1), Qv_back]; rfl
theorem Mv_apply (h : Fin 8) (i : Fin 256) : ∀ n c,
    Mv D n c (ix4 0 0 h i) = ∑ p ∈ Finset.range (n + 1), den D (k0_pay1 (D.q (back n c))) (back p c) (ix3 0 h i)
  | 0, c => by rw [Mv, pay9_apply, Finset.sum_range_one]; rfl
  | n + 1, c => by
    rw [Mv, pay18_apply, Mv_apply h i n (prv c), Finset.sum_range_succ' _ (n + 1), Qv_back]; rfl

theorem back_seven : ∀ c : Dev nD, back 7 (prv c) = c := by decide
theorem back_inj : ∀ c : Dev nD, Function.Bijective fun p : Fin 8 => back p.val c := by decide

/-- Eight steps back visit every device. -/
theorem sum_back (c : Dev nD) (g : Dev nD → EReal) : ∑ p ∈ Finset.range (7 + 1), g (back p c) = ∑ e : Dev nD, g e := by
  rw [← Fin.sum_univ_eq_sum_range (fun p => g (back p c)) 8]
  exact Fintype.sum_bijective _ (back_inj c) _ _ fun _ => rfl

/-- The block that comes home: every device's weighted values over every device's weights. -/
theorem Res_apply (c : Dev nD) (h : Fin 8) (i : Fin 256) (d : Fin 128) :
    Res D c (ix3 h i d) = Ideal.div
      (∑ e : Dev nD, ∑ J : Fin 4096, Ideal.exp (∑ d : Fin 128, D.q c (ix3 h i d) * D.k e (ix3 h J d)) * D.v e (ix3 h J d))
      (∑ e : Dev nD, ∑ J : Fin 4096, Ideal.exp (∑ d : Fin 128, D.q c (ix3 h i d) * D.k e (ix3 h J d))) := by
  rw [Res, Fin_, pay75_apply, Ov_apply, Mv_apply, back_seven,
    sum_back (prv c) (fun e => num D (k0_pay1 (D.q c)) e (ix3 h i d)), sum_back (prv c) (fun e => den D (k0_pay1 (D.q c)) e (ix3 0 h i))]
  simp only [num_apply, den_apply, pay1_apply]

end Cert.Proof.Ring

end
-- ==== Proof.Ends.lean ====
/-
What the program leaves on a device, at the extended reals, element by element: the operands it hands to the kernel and the
result it makes of the kernel's block.
-/
module

public import proofs.«01_k».proof.Proof.Run
public import proofs.«01_k».proof.Proof.Sums
public import Idealize.ShloMosaic.Lib.StableHlo.ReadAt
import all proofs.«01_k».proof.Proof.Values
import all proofs.«01_k».proof.Proof.Region
import all proofs.«01_k».proof.Proof.Run
import all proofs.«01_k».proof.Proof.Sums

@[expose] public section

set_option maxRecDepth 16384

noncomputable section

namespace Cert.Proof.Ring

open Idealize.ShloMosaic Idealize.ShloMosaic.TcCoe Idealize.SL.Sem Cert.KernelIdeal Cert.KernelIdeal.Gen

/-- The contents of the five arguments on a device. -/
structure Args where
  x : Vec Ideal S1x256x1024 .f32
  wq : Vec Ideal S1024x1024 .f32
  k : Vec Ideal S1x4096x8x128 .f32
  v : Vec Ideal S1x4096x8x128 .f32
  wo : Vec Ideal S1024x1024 .f32

variable (m : (ℓ : Loc nD τ sig) → Buf (Elt Ideal) ℓ)

def args (c : Dev nD) : Args where
  x := m ((c : Thread nD τ).loc main_arg0)
  wq := m ((c : Thread nD τ).loc main_arg1)
  k := m ((c : Thread nD τ).loc main_arg2)
  v := m ((c : Thread nD τ).loc main_arg3)
  wo := m ((c : Thread nD τ).loc main_arg4)

theorem data_q_apply (c : Dev nD) (h : Fin 8) (i : Fin 256) (d : Fin 128) :
    (data m).q c (ix3 h i d)
      = (∑ e : Fin 1024, (args m c).x (ix3 0 i e) * (args m c).wq (ix2 e ⟨h.val * 128 + d.val, by omega⟩))
        * Ideal.ofBits .f32 0x3DB504F3#32 := by
  show StableHlo.after hostOps0 (V₀ m c) (Proc.devRef .tc main_v9) (ix3 h i d) = _
  after_reads_at
  rfl

theorem data_k_apply (c : Dev nD) (h : Fin 8) (J : Fin 4096) (d : Fin 128) :
    (data m).k c (ix3 h J d) = (args m c).k (ix4 0 J h d) := by
  show StableHlo.after hostOps0 (V₀ m c) (Proc.devRef .tc main_v12) (ix3 h J d) = _
  after_reads_at
  rfl

theorem data_v_apply (c : Dev nD) (h : Fin 8) (J : Fin 4096) (d : Fin 128) :
    (data m).v c (ix3 h J d) = (args m c).v (ix4 0 J h d) := by
  show StableHlo.after hostOps0 (V₀ m c) (Proc.devRef .tc main_v15) (ix3 h J d) = _
  after_reads_at
  rfl

theorem wo_kept (c : Dev nD) : V₁ m c (Proc.devRef .tc main_arg4) = (args m c).wo := by
  show StableHlo.after hostOps0 (V₀ m c) (Proc.devRef .tc main_arg4) = _
  after_results
  rfl

theorem out_apply (c : Dev nD) (i : Fin 256) (n : Fin 1024) :
    (V₃ m c (Proc.devRef .tc main_v21) : Vec Ideal S1x256x1024 .f32) (ix3 0 i n)
      = ∑ e : Fin 1024, Res (data m) c (ix3 ⟨e.val / 128, by omega⟩ i ⟨e.val % 128, by omega⟩) * (args m c).wo (ix2 e n) := by
  show StableHlo.after hostOps1 (V₂ m c) (Proc.devRef .tc main_v21) (ix3 0 i n) = _
  generalize hV : V₂ m c = V
  after_reads_at
  subst hV
  refine Finset.sum_congr rfl fun e _ => ?_
  rw [V₂_out, V₂_other m c _ (by decide), wo_kept]

end Cert.Proof.Ring

end
-- ==== Proof.Softmax.lean ====
/-
Softmax over the extended reals: with finite scores, shifting every score by one number changes neither the quotient of the
weighted sum by the sum of the weights, whatever the values that are weighted.
-/
module

public import Idealize.ShloMosaic.PureOps.Ideal
public import Idealize.ShloMosaic.PureOps.Ideal.Laws

@[expose] public section

noncomputable section

namespace Cert.Proof.Softmax

open Idealize.ShloMosaic

/-! ## Sums of finite numbers -/

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite factor goes into a sum of extended reals when it is not negative. -/
theorem mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (EReal.coe_nonneg.mpr hc) (EReal.coe_ne_top c)]

/-! ## The shift -/

/-- The quotient of the weighted sum by the sum of the weights `e ^ s`. -/
def mean {ι : Type} [Fintype ι] (s : ι → ℝ) (v : ι → EReal) : EReal :=
  Ideal.div (∑ j, Ideal.exp (s j) * v j) (∑ j, Ideal.exp (s j))

/-- The weights divided by `e ^ M` give the same quotient. -/
theorem mean_shift {ι : Type} [Fintype ι] [Nonempty ι] (s : ι → ℝ) (v : ι → EReal) (M : ℝ) :
    Ideal.div (∑ j, v j * Ideal.exp ((s j : EReal) - (M : EReal))) (∑ j, Ideal.exp ((s j : EReal) - (M : EReal)))
      = mean s v := by
  have hw : ∀ j, Ideal.exp ((s j : EReal) - (M : EReal)) = ((Real.exp (-M) : ℝ) : EReal) * Ideal.exp (s j) := fun j => by
    rw [← EReal.coe_sub, Ideal.exp_coe, Ideal.exp_coe, ← EReal.coe_mul, ← Real.exp_add]; congr 2; ring
  have hn : ∑ j, v j * Ideal.exp ((s j : EReal) - (M : EReal))
      = ((Real.exp (-M) : ℝ) : EReal) * ∑ j, Ideal.exp (s j) * v j := by
    rw [mul_sum _ _ (Real.exp_pos _).le]
    exact Finset.sum_congr rfl fun j _ => by rw [hw, mul_comm, mul_assoc]
  have hd : ∑ j, Ideal.exp ((s j : EReal) - (M : EReal)) = ((Real.exp (-M) * ∑ j, Real.exp (s j) : ℝ) : EReal) := by
    rw [EReal.coe_mul, coe_sum, mul_sum _ _ (Real.exp_pos _).le]
    exact Finset.sum_congr rfl fun j _ => by rw [hw, Ideal.exp_coe]
  have hl : ∑ j, Ideal.exp (s j) = ((∑ j, Real.exp (s j) : ℝ) : EReal) := by
    rw [coe_sum]; exact Finset.sum_congr rfl fun j _ => Ideal.exp_coe _
  have hpos : 0 < ∑ j, Real.exp (s j) := Finset.sum_pos (fun j _ => Real.exp_pos _) Finset.univ_nonempty
  have hne : ((∑ j, Real.exp (s j) : ℝ) : EReal) ≠ 0 := by exact_mod_cast hpos.ne'
  have hne' : ((Real.exp (-M) * ∑ j, Real.exp (s j) : ℝ) : EReal) ≠ 0 := by
    exact_mod_cast (mul_pos (Real.exp_pos _) hpos).ne'
  rw [mean, hn, hd, hl, Ideal.div, Ideal.div, if_neg hne, if_neg hne', ← EReal.coe_inv, ← EReal.coe_inv, mul_inv,
    EReal.coe_mul, mul_comm ((Real.exp (-M) : ℝ) : EReal), mul_assoc, ← mul_assoc ((Real.exp (-M) : ℝ) : EReal), ← EReal.coe_mul,
    mul_inv_cancel₀ (Real.exp_pos _).ne', EReal.coe_one, one_mul]

/-- The largest of finitely many finite scores is finite. -/
theorem fold_max_real {ι : Type} [Fintype ι] [Nonempty ι] (s : ι → ℝ) :
    ∃ M : ℝ, Finset.univ.fold max (⊥ : EReal) (fun j => (s j : EReal)) = M := by
  classical
  have key : ∀ t : Finset ι, t.Nonempty → ∃ M : ℝ, t.fold max (⊥ : EReal) (fun j => (s j : EReal)) = M := by
    intro t ht
    induction t using Finset.induction_on with
    | empty => exact absurd ht (by simp)
    | insert a t ha ih =>
      rw [Finset.fold_insert ha]
      rcases t.eq_empty_or_nonempty with rfl | hn
      · exact ⟨s a, by simp⟩
      · obtain ⟨M, hM⟩ := ih hn
        exact ⟨max (s a) M, by rw [hM]; exact (EReal.coe_strictMono.monotone.map_max).symm⟩
  exact key _ Finset.univ_nonempty

/-! ## Scores -/

/-- The scale applied to the query or to the product: the same score, for finite factors. -/
theorem score_eq {ι κ : Type} [Fintype ι] [Fintype κ] (c : ℝ) (x : ι → ℝ) (w : ι → κ → ℝ) (k : κ → ℝ) :
    (∑ d, (∑ e, (x e : EReal) * (w e d : EReal)) * (c : EReal) * (k d : EReal))
      = (((∑ d, (∑ e, x e * w e d) * k d) * c : ℝ) : EReal) ∧
    (∑ d, (∑ e, (x e : EReal) * (w e d : EReal)) * (k d : EReal)) * (c : EReal)
      = (((∑ d, (∑ e, x e * w e d) * k d) * c : ℝ) : EReal) := by
  have hq : ∀ d, (∑ e, (x e : EReal) * (w e d : EReal)) = ((∑ e, x e * w e d : ℝ) : EReal) := fun d => by
    rw [coe_sum]; exact Finset.sum_congr rfl fun e _ => (EReal.coe_mul _ _).symm
  constructor
  · rw [Finset.sum_mul, coe_sum]
    refine Finset.sum_congr rfl fun d _ => ?_
    rw [hq, ← EReal.coe_mul, ← EReal.coe_mul]; congr 1; ring
  · rw [EReal.coe_mul, coe_sum]
    congr 1
    exact Finset.sum_congr rfl fun d _ => by rw [hq, ← EReal.coe_mul]

/-! ## Finite numbers -/

/-- The scale of the scores is a finite number. -/
theorem scale_real : ∃ c : ℝ, Ideal.ofBits .f32 0x3DB504F3#32 = (c : EReal) := by
  dsimp only [Ideal.ofBits, Ideal.ieee]
  rw [if_neg (by decide), if_neg (by decide)]
  exact ⟨_, rfl⟩

/-- A number below infinity in size is finite. -/
theorem real_of_abs_lt {x : EReal} (h : Ideal.cmp .olt (max x (-x)) (Ideal.ofBits .f32 0x7F800000#32) = 1#1) :
    ∃ r : ℝ, x = r := by
  have hlt : max x (-x) < Ideal.ofBits .f32 0x7F800000#32 := by
    by_contra hn
    rw [Ideal.cmp, decide_eq_false hn] at h
    exact absurd h (by decide)
  induction x with
  | bot => exact absurd hlt (by simp)
  | top => exact absurd hlt (by simp)
  | coe r => exact ⟨r, rfl⟩

end Cert.Proof.Softmax

end
-- ==== Proof.RefValue.lean ====
/-
What the reference computes, at the extended reals, element by element.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.Proof.Ref

open Idealize.ShloMosaic Idealize.ShloMosaic.TcCoe Idealize.SL.Sem Cert.ReferenceIdeal Cert.ReferenceIdeal.Gen

/-! ## The stages -/

section
variable (x : FVec Ideal S1x2048x1024 .f32) (wq : FVec Ideal S1024x1024 .f32) (k v : FVec Ideal S1x32768x8x128 .f32)
  (wo : FVec Ideal S1024x1024 .f32)

/-- The scaled scores. -/
def scores : FVec Ideal S1x8x2048x32768 .f32 :=
  mulf (Host.dotGeneral dot_S1x2048x8x128_S1x32768x8x128_S1x8x2048x32768_3_3_1_1_02_02 none
      (shapeCast S1x2048x8x128 (Host.dotGeneral dot_S1x2048x1024_S1024x1024_S1x2048x1024_2_0_01_1_n_n none x wq)
        shapeCasts_S1x2048x1024_S1x2048x8x128) k)
    (broadcastInDim S1x8x2048x32768 ![] bcast_S_S1x8x2048x32768 (constant S_ .f32 0x3DB504F3#32))

/-- Each query's largest score. -/
def tops (s : FVec Ideal S1x8x2048x32768 .f32) : FVec Ideal S1x8x2048 .f32 :=
  Host.reduce FloatOps.maximumf s (constant S_ .f32 0xFF800000#32) reducesTo_S1x8x2048x32768_S1x8x2048_d3 h_S_

/-- The weights of scores `s` shifted by `t`. -/
def weights (s : FVec Ideal S1x8x2048x32768 .f32) (t : FVec Ideal S1x8x2048 .f32) : FVec Ideal S1x8x2048x32768 .f32 :=
  Host.exp (subf s (broadcastInDim S1x8x2048x32768 ![0, 1, 2, 3] bcast_S1x8x2048x1_S1x8x2048x32768_0_1_2_3
    (broadcastInDim S1x8x2048x1 ![0, 1, 2] bcast_S1x8x2048_S1x8x2048x1_0_1_2 t)))

/-- The weighted mean of the values, a row per query. -/
def attended (p : FVec Ideal S1x8x2048x32768 .f32) : FVec Ideal S1x2048x8x128 .f32 :=
  Host.divf (transpose S1x2048x8x128 [0, 3, 1, 2]
      (Host.dotGeneral dot_S1x32768x8x128_S1x8x2048x32768_S1x8x128x2048_1_3_3_2_02_01 none v p)
      transposes_S1x8x128x2048_S1x2048x8x128_0_3_1_2)
    (broadcastInDim S1x2048x8x128 ![0, 1, 2, 3] bcast_S1x2048x8x1_S1x2048x8x128_0_1_2_3
      (transpose S1x2048x8x1 [0, 2, 1, 3] (broadcastInDim S1x8x2048x1 ![0, 1, 2] bcast_S1x8x2048_S1x8x2048x1_0_1_2
        (Host.reduceAdd p (constant S_ .f32 0x00000000#32) reducesTo_S1x8x2048x32768_S1x8x2048_d3 h_S_))
        transposes_S1x8x2048x1_S1x2048x8x1_0_2_1_3))

/-- The rows projected. -/
def project (a : FVec Ideal S1x2048x8x128 .f32) : FVec Ideal S1x2048x1024 .f32 :=
  Host.dotGeneral dot_S1x2048x1024_S1024x1024_S1x2048x1024_2_0_01_1_n_n none
    (shapeCast S1x2048x1024 a shapeCasts_S1x2048x8x128_S1x2048x1024) wo

/-- The reference's result. -/
def result : FVec Ideal S1x2048x1024 .f32 :=
  project wo (attended v (weights (scores x wq k) (tops (scores x wq k))))

/-! ## Each stage at an index -/

theorem scores_apply (h : Fin 8) (i : Fin 2048) (j : Fin 32768) :
    scores x wq k (ix4 0 h i j)
      = (∑ d : Fin 128, (∑ e : Fin 1024, x (ix3 0 i e) * wq (ix2 e ⟨h.val * 128 + d.val, by omega⟩)) * k (ix4 0 j h d))
        * Ideal.ofBits .f32 0x3DB504F3#32 := by
  pointwise [scores]

theorem tops_apply (s : FVec Ideal S1x8x2048x32768 .f32) (h : Fin 8) (i : Fin 2048) :
    tops s (ix3 0 h i) = Finset.univ.fold max (Ideal.ofBits .f32 0xFF800000#32) fun j : Fin 32768 => s (ix4 0 h i j) := by
  pointwise [tops]

theorem weights_apply (s : FVec Ideal S1x8x2048x32768 .f32) (t : FVec Ideal S1x8x2048 .f32) (h : Fin 8) (i : Fin 2048) (j : Fin 32768) :
    weights s t (ix4 0 h i j) = Ideal.exp (s (ix4 0 h i j) - t (ix3 0 h i)) := by
  pointwise [weights]

theorem attended_apply (p : FVec Ideal S1x8x2048x32768 .f32) (i : Fin 2048) (h : Fin 8) (d : Fin 128) :
    attended v p (ix4 0 i h d) = Ideal.div (∑ j : Fin 32768, v (ix4 0 j h d) * p (ix4 0 h i j)) (∑ j : Fin 32768, p (ix4 0 h i j)) := by
  pointwise [attended]

theorem project_apply (a : FVec Ideal S1x2048x8x128 .f32) (i : Fin 2048) (n : Fin 1024) :
    project wo a (ix3 0 i n)
      = ∑ e : Fin 1024, a (ix4 0 i ⟨e.val / 128, by omega⟩ ⟨e.val % 128, by omega⟩) * wo (ix2 e n) := by
  pointwise [project]

end

/-! ## The run -/

variable (m : (ℓ : Loc nD τ sig) → Buf (Elt Ideal) ℓ) (ρ : Dev nD → PrngReg)

/-- The reference runs to its result and leaves its arguments. -/
theorem run : θ_run defs (onTc (τ := τ) (main (F := Ideal))) ⟨m, fun _ => 0, ρ⟩ fun r => ∀ c : Dev nD,
      r.2.mem ((c.tc : Thread nD τ).loc main_v18)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Value.run m ρ)

end Cert.Proof.Ref

end
-- ==== Proof.Agree.lean ====
/-
The kernel's result on a device is that device's block of the reference's: both are softmax attention over all the keys.
-/
module

public import proofs.«01_k».proof.Proof.Ends
public import proofs.«01_k».proof.Proof.RefValue
public import proofs.«01_k».proof.Pre_finite_KernelIdeal
public import Idealize.ShloMosaic.Lib.ReduceAll
public import Idealize.ShloMosaic.Lib.Layout
import all proofs.«01_k».proof.Proof.Ends
import all proofs.«01_k».proof.Proof.Sums
import all proofs.«01_k».proof.Proof.RefValue
import all proofs.«01_k».proof.Proof.Softmax

@[expose] public section

set_option maxRecDepth 16384

noncomputable section

namespace Cert.Proof.Agree

open Idealize.ShloMosaic Idealize.ShloMosaic.TcCoe Idealize.SL.Sem Cert.Proof.Ring

/-! ## The precondition, element by element -/

instance preFacts : Cert.Pre_finite_KernelIdeal.Facts where
  bcast_S_S1x256x1024 := by decide
  reducesTo_S1x256x1024_S_d0_1_2 := by decide
  h_S_ := by decide
  bcast_S_S1024x1024 := by decide
  reducesTo_S1024x1024_S_d0_1 := by decide
  bcast_S_S1x4096x8x128 := by decide
  reducesTo_S1x4096x8x128_S_d0_1_2_3 := by decide

/-- Under the precondition the device's queries' operands and its keys are finite. -/
theorem finite_args (a : Args)
    (h : Cert.Pre_finite_KernelIdeal.fn (F := Ideal) a.x a.wq a.k a.v a.wo = fun _ => 1#1) :
    (∀ i, ∃ r : ℝ, a.x i = r) ∧ (∀ i, ∃ r : ℝ, a.wq i = r) ∧ ∀ i, ∃ r : ℝ, a.k i = r := by
  haveI : Subsingleton (Cert.Pre_finite_KernelIdeal.S_).Idx := ⟨fun a b => funext fun d => d.elim0⟩
  have h0 := congrFun h ix0
  obtain ⟨h1, hk⟩ := IntOp.andi_eq_one.1 h0
  obtain ⟨hx, hw⟩ := IntOp.andi_eq_one.1 h1
  exact ⟨fun i => Softmax.real_of_abs_lt (Host.reduce_andi_all _ _ _ _ _ hx i),
    fun i => Softmax.real_of_abs_lt (Host.reduce_andi_all _ _ _ _ _ hw i),
    fun i => Softmax.real_of_abs_lt (Host.reduce_andi_all _ _ _ _ _ hk i)⟩

/-! ## Blocks of the whole arrays -/

theorem block3_apply (c : Fin 8) (X : (⟨3, ![1, 2048, 1024]⟩ : Shape).Idx → EReal) (i : Fin 256) (e : Fin 1024) :
    Layout.block ⟨3, ![1, 256, 1024]⟩ ⟨3, ![1, 2048, 1024]⟩ 1 8 c X (by decide) (ix3 0 i e)
      = X (ix3 0 ⟨c.val * 256 + i.val, by omega⟩ e) := by
  rw [Layout.block_apply]
  refine congrArg X (funext fun a => Fin.ext ?_)
  match a with
  | ⟨0, _⟩ => rfl
  | ⟨1, _⟩ => rfl
  | ⟨2, _⟩ => rfl

theorem block4_apply (c : Fin 8) (X : (⟨4, ![1, 32768, 8, 128]⟩ : Shape).Idx → EReal) (J : Fin 4096) (h : Fin 8) (d : Fin 128) :
    Layout.block ⟨4, ![1, 4096, 8, 128]⟩ ⟨4, ![1, 32768, 8, 128]⟩ 1 8 c X (by decide) (ix4 0 J h d)
      = X (ix4 0 ⟨c.val * 4096 + J.val, by omega⟩ h d) := by
  rw [Layout.block_apply]
  refine congrArg X (funext fun a => Fin.ext ?_)
  match a with
  | ⟨0, _⟩ => rfl
  | ⟨1, _⟩ => rfl
  | ⟨2, _⟩ => rfl
  | ⟨3, _⟩ => rfl

/-- Summing over the devices' keys is summing over all the keys. -/
theorem sum_devices (f : Fin 32768 → EReal) :
    ∑ e : Fin 8, ∑ J : Fin 4096, f ⟨e.val * 4096 + J.val, by omega⟩ = ∑ j, f j := by
  have key := Fin.sum_univ_univ_mul_add 8 4096 fun n => if hn : n < 32768 then f ⟨n, hn⟩ else 0
  have hl : ∀ (e : Fin 8) (J : Fin 4096), (if hn : e.val * 4096 + J.val < 32768 then f ⟨e.val * 4096 + J.val, hn⟩ else 0)
      = f ⟨e.val * 4096 + J.val, by omega⟩ := fun e J => dif_pos (by omega)
  have hr : ∀ j : Fin (8 * 4096), (if hn : j.val < 32768 then f ⟨j.val, hn⟩ else 0) = f j := fun j => dif_pos j.isLt
  rw [Finset.sum_congr rfl fun e _ => Finset.sum_congr rfl fun J _ => (hl e J).symm]
  exact key.trans (Finset.sum_congr rfl fun j _ => hr j)

/-- The pattern of minus infinity. -/
theorem ofBits_bot : Ideal.ofBits .f32 0xFF800000#32 = ⊥ := by
  dsimp only [Ideal.ofBits, Ideal.ieee]
  rw [if_pos (by decide), if_pos (by decide), if_pos (by decide)]

/-! ## The two results -/

section
variable (X : FVec Ideal ⟨3, ![1, 2048, 1024]⟩ .f32) (Wq : FVec Ideal ⟨2, ![1024, 1024]⟩ .f32)
  (K V : FVec Ideal ⟨4, ![1, 32768, 8, 128]⟩ .f32) (Wo : FVec Ideal ⟨2, ![1024, 1024]⟩ .f32)

/-- Device `c` holds its block of the whole arguments. -/
structure Holds (c : Fin 8) (a : Args) : Prop where
  x : a.x = Layout.block ⟨3, ![1, 256, 1024]⟩ ⟨3, ![1, 2048, 1024]⟩ 1 8 c X
  wq : a.wq = Wq
  k : a.k = Layout.block ⟨4, ![1, 4096, 8, 128]⟩ ⟨4, ![1, 32768, 8, 128]⟩ 1 8 c K
  v : a.v = Layout.block ⟨4, ![1, 4096, 8, 128]⟩ ⟨4, ![1, 32768, 8, 128]⟩ 1 8 c V
  wo : a.wo = Wo

/-- The score of key `j` for query `i` of head `h`, over finite operands and with scale `s`. -/
def score (s : ℝ) (x : Fin 2048 → Fin 1024 → ℝ) (w : Fin 1024 → Fin 1024 → ℝ) (k : Fin 32768 → Fin 8 → Fin 128 → ℝ)
    (h : Fin 8) (i : Fin 2048) (j : Fin 32768) : ℝ :=
  (∑ d : Fin 128, (∑ e : Fin 1024, x i e * w e ⟨h.val * 128 + d.val, by omega⟩) * k j h d) * s

variable {X Wq K V Wo} {s : ℝ} {x : Fin 2048 → Fin 1024 → ℝ} {w : Fin 1024 → Fin 1024 → ℝ} {k : Fin 32768 → Fin 8 → Fin 128 → ℝ}
  (hs : Ideal.ofBits .f32 0x3DB504F3#32 = (s : EReal)) (hX : ∀ i e, X (ix3 0 i e) = (x i e : EReal))
  (hW : ∀ e n, Wq (ix2 e n) = (w e n : EReal)) (hK : ∀ j h d, K (ix4 0 j h d) = (k j h d : EReal))

include hs hX hW hK

/-- The reference's attention is the mean of the values under the scores. -/
theorem attended_eq (i : Fin 2048) (h : Fin 8) (d : Fin 128) :
    Ref.attended V (Ref.weights (Ref.scores X Wq K) (Ref.tops (Ref.scores X Wq K))) (ix4 0 i h d)
      = Softmax.mean (score s x w k h i) fun j => V (ix4 0 j h d) := by
  have hsc : ∀ j, Ref.scores X Wq K (ix4 0 h i j) = (score s x w k h i j : EReal) := fun j => by
    rw [Ref.scores_apply, hs]
    simp only [hX, hW, hK]
    rw [score]
    rw [← (Softmax.score_eq s (x i) (fun e (d : Fin 128) => w e ⟨h.val * 128 + d.val, by omega⟩) (k j h)).2]
  obtain ⟨M, hM⟩ := Softmax.fold_max_real (score s x w k h i)
  have htop : Ref.tops (Ref.scores X Wq K) (ix3 0 h i) = (M : EReal) := by
    rw [Ref.tops_apply, ofBits_bot]
    simp only [hsc]
    exact hM
  rw [Ref.attended_apply]
  simp only [Ref.weights_apply, hsc, htop]
  exact Softmax.mean_shift _ _ M

variable (m : (ℓ : Loc Cert.KernelIdeal.nD Cert.KernelIdeal.τ Cert.KernelIdeal.sig) → Buf (Elt Ideal) ℓ)
  (hm : ∀ c : Dev Cert.KernelIdeal.nD, Holds X Wq K V Wo c (args m c))

include hm

/-- The block that comes home to a device is that mean for the device's queries. -/
theorem home_eq (c : Dev Cert.KernelIdeal.nD) (h : Fin 8) (i : Fin 256) (d : Fin 128) :
    Res (data m) c (ix3 h i d)
      = Softmax.mean (score s x w k h ⟨c.val * 256 + i.val, by have := (show c.val < 8 from c.isLt); omega⟩) fun j => V (ix4 0 j h d) := by
  have hk : ∀ (e : Dev Cert.KernelIdeal.nD) (J : Fin 4096) (d : Fin 128),
      (data m).k e (ix3 h J d) = (k ⟨e.val * 4096 + J.val, by have := (show e.val < 8 from e.isLt); omega⟩ h d : EReal) := fun e J d => by
    rw [data_k_apply, (hm e).k, block4_apply, hK]
  have hv : ∀ (e : Dev Cert.KernelIdeal.nD) (J : Fin 4096),
      (data m).v e (ix3 h J d) = V (ix4 0 ⟨e.val * 4096 + J.val, by have := (show e.val < 8 from e.isLt); omega⟩ h d) := fun e J => by
    rw [data_v_apply, (hm e).v, block4_apply]
  have hq : ∀ d : Fin 128, (data m).q c (ix3 h i d)
      = (∑ e : Fin 1024, (x ⟨c.val * 256 + i.val, by have := (show c.val < 8 from c.isLt); omega⟩ e : EReal)
          * (w e ⟨h.val * 128 + d.val, by omega⟩ : EReal)) * (s : EReal) := fun d => by
    rw [data_q_apply, (hm c).x, (hm c).wq, hs]
    simp only [block3_apply, hX, hW]
  have hsc : ∀ (e : Dev Cert.KernelIdeal.nD) (J : Fin 4096), ∑ d : Fin 128, (data m).q c (ix3 h i d) * (data m).k e (ix3 h J d)
      = (score s x w k h ⟨c.val * 256 + i.val, by have := (show c.val < 8 from c.isLt); omega⟩
          ⟨e.val * 4096 + J.val, by have := (show e.val < 8 from e.isLt); omega⟩ : EReal) := fun e J => by
    simp only [hq, hk]
    rw [score]
    rw [← (Softmax.score_eq s (x _) (fun e (d : Fin 128) => w e ⟨h.val * 128 + d.val, by omega⟩) (k _ h)).1]
  rw [Res_apply]
  simp only [hsc, hv]
  rw [Softmax.mean, ← sum_devices, ← sum_devices]

/-- A device's result is its block of the reference's. -/
theorem result_eq (c : Dev Cert.KernelIdeal.nD) :
    (V₃ m c (Proc.devRef .tc Cert.KernelIdeal.main_v21) : FVec Ideal ⟨3, ![1, 256, 1024]⟩ .f32)
      = Layout.block ⟨3, ![1, 256, 1024]⟩ ⟨3, ![1, 2048, 1024]⟩ 1 8 c (Ref.result X Wq K V Wo) := by
  funext j
  idx_vars j
  obtain rfl : j0 = 0 := Subsingleton.elim _ _
  rw [out_apply, block3_apply, Ref.result, Ref.project_apply]
  refine Finset.sum_congr (M := EReal) rfl fun e _ => ?_
  rw [home_eq hs hX hW hK m hm, attended_eq hs hX hW hK, (hm c).wo]

end

/-- The scores' operands are finite and every device holds its block: the results agree. -/
theorem agree {X : FVec Ideal ⟨3, ![1, 2048, 1024]⟩ .f32} {Wq : FVec Ideal ⟨2, ![1024, 1024]⟩ .f32}
    {K V : FVec Ideal ⟨4, ![1, 32768, 8, 128]⟩ .f32} {Wo : FVec Ideal ⟨2, ![1024, 1024]⟩ .f32}
    (m : (ℓ : Loc Cert.KernelIdeal.nD Cert.KernelIdeal.τ Cert.KernelIdeal.sig) → Buf (Elt Ideal) ℓ)
    (hm : ∀ c : Dev Cert.KernelIdeal.nD, Holds X Wq K V Wo c (args m c))
    (hf : ∀ c : Dev Cert.KernelIdeal.nD, Cert.Pre_finite_KernelIdeal.fn (F := Ideal) (args m c).x (args m c).wq (args m c).k
      (args m c).v (args m c).wo = fun _ => 1#1)
    (c : Dev Cert.KernelIdeal.nD) :
    (V₃ m c (Proc.devRef .tc Cert.KernelIdeal.main_v21) : FVec Ideal ⟨3, ![1, 256, 1024]⟩ .f32)
      = Layout.block ⟨3, ![1, 256, 1024]⟩ ⟨3, ![1, 2048, 1024]⟩ 1 8 c (Ref.result X Wq K V Wo) := by
  have hX : ∀ i e, ∃ r : ℝ, X (ix3 0 i e) = r := fun i e => by
    obtain ⟨r, hr⟩ := (finite_args _ (hf ⟨i.val / 256, by show _ < 8; omega⟩)).1 (ix3 0 ⟨i.val % 256, by omega⟩ e)
    rw [(hm _).x, block3_apply] at hr
    refine ⟨r, (congrArg (fun i => X (ix3 0 i e)) (Fin.ext ?_)).trans hr⟩
    show i.val = i.val / 256 * 256 + i.val % 256
    omega
  have hW : ∀ e n, ∃ r : ℝ, Wq (ix2 e n) = r := fun e n => by
    obtain ⟨r, hr⟩ := (finite_args _ (hf 0)).2.1 (ix2 e n)
    rw [(hm 0).wq] at hr
    exact ⟨r, hr⟩
  have hK : ∀ j h d, ∃ r : ℝ, K (ix4 0 j h d) = r := fun j h d => by
    obtain ⟨r, hr⟩ := (finite_args _ (hf ⟨j.val / 4096, by show _ < 8; omega⟩)).2.2 (ix4 0 ⟨j.val % 4096, by omega⟩ h d)
    rw [(hm _).k, block4_apply] at hr
    refine ⟨r, (congrArg (fun j => K (ix4 0 j h d)) (Fin.ext ?_)).trans hr⟩
    show j.val = j.val / 4096 * 4096 + j.val % 4096
    omega
  choose x hX using hX
  choose w hW using hW
  choose k hK using hK
  obtain ⟨s, hs⟩ := Softmax.scale_real
  exact result_eq hs hX hW hK m hm c

end Cert.Proof.Agree

end
-- ==== Proof.Frames.lean ====
/-
The frames: each program runs to its end, its arguments unchanged and every counter at zero.
-/
module

public import proofs.«01_k».proof.Defs
public import proofs.«01_k».proof.Proof.Agree
public import proofs.«01_k».proof.Proof.Gen.Kernel
import all proofs.«01_k».proof.Proof.Run
import all proofs.«01_k».proof.Kernel
import all proofs.«01_k».proof.KernelIdeal

@[expose] public section

noncomputable section

namespace Cert.Proof

open Idealize.ShloMosaic Idealize.ShloMosaic.TcCoe Idealize.SL.Sem

instance referencePreFacts : Cert.Pre_finite_ReferenceIdeal.Facts where
  bcast_S_S1x2048x1024 := by decide
  reducesTo_S1x2048x1024_S_d0_1_2 := by decide
  h_S_ := by decide
  bcast_S_S1024x1024 := by decide
  reducesTo_S1024x1024_S_d0_1 := by decide
  bcast_S_S1x32768x8x128 := by decide
  reducesTo_S1x32768x8x128_S_d0_1_2_3 := by decide

namespace Ring

open Cert.KernelIdeal Cert.KernelIdeal.Gen

variable {F : FTy → Type} [FloatOps F]
variable (m : (ℓ : Loc nD τ sig) → Buf (Elt F) ℓ) (ρ : Dev nD → PrngReg)

/-- The program leaves its five arguments as they were and every counter at zero. -/
theorem frame : θ_run (defs (F := F)) (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun _ h => ⟨fun c =>
    ⟨(h.1 c main_arg0 rfl).trans (args_kept m c 0), (h.1 c main_arg1 rfl).trans (args_kept m c 1),
      (h.1 c main_arg2 rfl).trans (args_kept m c 2), (h.1 c main_arg3 rfl).trans (args_kept m c 3),
      (h.1 c main_arg4 rfl).trans (args_kept m c 4)⟩, h.2⟩) (run_all m ρ)

end Ring

/-- The kernel and its reading over the extended reals are one text: their bodies are one table, -/
theorem same_bodies {F : FTy → Type} [FloatOps F] : Cert.Kernel.defs₀ (F := F) = Cert.KernelIdeal.defs₀ (F := F) := by
  funext p ℓ a
  match p, ℓ, a with
  | .tc, ⟨0, _⟩, (t, s) => rfl
  | .tc, ⟨n + 1, h⟩, _ => exact absurd h (Nat.not_lt.2 (Nat.le_add_left _ _))
  | .scScalar _, _, _ => rfl
  | .scVector _ _, _, _ => rfl

/-- and so are the tables with the kernel's region in them. -/
theorem same_defs {F : FTy → Type} [FloatOps F] : Cert.Kernel.defs (F := F) = Cert.KernelIdeal.defs (F := F) :=
  congrArg (Pipeline.defs (Cert.KernelIdeal.pcfgs (F := F))) same_bodies

/-- The kernel's frame, over the bits. -/
theorem frame_kernel : Cert.quiescent_Kernel := fun m ρ _ => by
  rw [same_defs]
  exact Ring.frame (F := Bits) m ρ

/-- The kernel's frame over the extended reals, -/
theorem frame_ideal : Cert.quiescent_KernelIdeal := fun m ρ _ => Ring.frame (F := Ideal) m ρ

/-- and the same under the precondition. -/
theorem frame_ideal_pre : Cert.quiescent_KernelIdeal_pre_finite_KernelIdeal := fun m ρ _ => Ring.frame (F := Ideal) m ρ

/-- The reference has no counters, and no operation of it writes an argument. -/
theorem frame_reference : Cert.quiescent_ReferenceIdeal := fun m ρ _ =>
  (θ_run Cert.ReferenceIdeal.defs _ _).mono
    (fun r h => ⟨fun c => (h c).2, sem_eq_zero_of_no_sems (by decide) r.2⟩) (Ref.run m ρ)

/-- The same under the precondition. -/
theorem frame_reference_pre : Cert.quiescent_ReferenceIdeal_pre_finite_ReferenceIdeal := fun m ρ _ =>
  frame_reference m ρ trivial

end Cert.Proof

end
-- ==== Proof.lean ====
/-
The certificate: the kernel over its bits, the kernel and the reference over the extended reals each run to their end with
their arguments unchanged and every counter at zero; and from the same whole arrays every device of the kernel ends with
its block of the reference's result.
-/
module

public import proofs.«01_k».proof.Defs
public import proofs.«01_k».proof.Proof.Frames
import all proofs.«01_k».proof.Proof.Ends

@[expose] public section

noncomputable section

namespace Cert.Proof

open Idealize.ShloMosaic Idealize.ShloMosaic.TcCoe Idealize.SL.Sem

/-- Every device's result is its block of the reference's. -/
theorem algebraic : Cert.algebraic_KernelIdeal_ReferenceIdeal_pre_finite_KernelIdeal := by
  intro m ρ m' ρ' hpre hagree
  have hm : ∀ c, Agree.Holds _ _ _ _ _ c (Ring.args m c) := fun c =>
    ⟨(hagree c).1, (hagree c).2.1, (hagree c).2.2.1, (hagree c).2.2.2.1, (hagree c).2.2.2.2⟩
  refine ⟨_, (θ_run Cert.KernelIdeal.defs _ _).mono (fun r h c => ⟨(h.1.1 c Cert.KernelIdeal.main_v21 rfl).trans (Agree.agree m hm hpre c), h.2.1 c⟩)
    (θ_run_and (Ring.run_all m ρ) (Ring.frame m ρ)),
    (θ_run Cert.ReferenceIdeal.defs _ _).mono (fun r h => h 0) (Ref.run m' ρ')⟩

theorem claim : Cert.Claim :=
  ⟨Cert.Kernel.Gen.facts, Cert.KernelIdeal.Gen.facts, Cert.ReferenceIdeal.Gen.facts, Agree.preFacts, referencePreFacts,
    frame_kernel, frame_ideal, frame_ideal_pre, frame_reference, frame_reference_pre, trivial, algebraic⟩

end Cert.Proof

end
